-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x3584 : Shape := ⟨3, ![2, 896, 3584]⟩
abbrev S2x896x18944 : Shape := ⟨3, ![2, 896, 18944]⟩
abbrev S1792x18944 : Shape := ⟨2, ![1792, 18944]⟩
abbrev S28x18944 : Shape := ⟨2, ![28, 18944]⟩
abbrev S3584x32 : Shape := ⟨2, ![3584, 32]⟩
abbrev S32x18944 : Shape := ⟨2, ![32, 18944]⟩
abbrev S1792x3584 : Shape := ⟨2, ![1792, 3584]⟩
abbrev S32x3584 : Shape := ⟨2, ![32, 3584]⟩
abbrev S1792x32 : Shape := ⟨2, ![1792, 32]⟩
abbrev S1792x512 : Shape := ⟨2, ![1792, 512]⟩
abbrev S28x512 : Shape := ⟨2, ![28, 512]⟩
abbrev S32x512 : Shape := ⟨2, ![32, 512]⟩
abbrev S32x1792 : Shape := ⟨2, ![32, 1792]⟩
abbrev S_ : Shape := ⟨0, ![]⟩
abbrev S128x512 : Shape := ⟨2, ![128, 512]⟩
abbrev S2x512 : Shape := ⟨2, ![2, 512]⟩
abbrev S256x512 : Shape := ⟨2, ![256, 512]⟩
abbrev S1x512 : Shape := ⟨2, ![1, 512]⟩
abbrev S1792x256 : Shape := ⟨2, ![1792, 256]⟩
abbrev S512x32 : Shape := ⟨2, ![512, 32]⟩
abbrev S2x896x32 : Shape := ⟨3, ![2, 896, 32]⟩

abbrev nBuf : Space → Nat
  | .hbm => 18
  | .vmem => 19
  | .smem => 0
  | _ => 0

abbrev bufTy : (tb : Table) → Fin (tcTables nBuf tb) → BufTy
  | .hbm, ⟨0, _⟩ => ⟨S2x896x3584, .bf16⟩
  | .hbm, ⟨1, _⟩ => ⟨S2x896x18944, .bf16⟩
  | .hbm, ⟨2, _⟩ => ⟨S1792x18944, .i8⟩
  | .hbm, ⟨3, _⟩ => ⟨S28x18944, .bf16⟩
  | .hbm, ⟨4, _⟩ => ⟨S3584x32, .bf16⟩
  | .hbm, ⟨5, _⟩ => ⟨S32x18944, .bf16⟩
  | .hbm, ⟨6, _⟩ => ⟨S1792x3584, .bf16⟩
  | .hbm, ⟨7, _⟩ => ⟨S1792x18944, .bf16⟩
  | .hbm, ⟨8, _⟩ => ⟨S32x3584, .bf16⟩
  | .hbm, ⟨9, _⟩ => ⟨S1792x3584, .bf16⟩
  | .hbm, ⟨10, _⟩ => ⟨S32x3584, .f32⟩
  | .hbm, ⟨11, _⟩ => ⟨S32x18944, .f32⟩
  | .hbm, ⟨12, _⟩ => ⟨S1792x32, .bf16⟩
  | .hbm, ⟨13, _⟩ => ⟨S1792x32, .bf16⟩
  | .hbm, ⟨14, _⟩ => ⟨S2x896x3584, .bf16⟩
  | .hbm, ⟨15, _⟩ => ⟨S3584x32, .f32⟩
  | .hbm, ⟨16, _⟩ => ⟨S2x896x32, .bf16⟩
  | .hbm, ⟨17, _⟩ => ⟨S2x896x32, .bf16⟩
  | .local _ .vmem, ⟨0, _⟩ => ⟨S1792x512, .bf16⟩
  | .local _ .vmem, ⟨1, _⟩ => ⟨S1792x512, .bf16⟩
  | .local _ .vmem, ⟨2, _⟩ => ⟨S1792x512, .i8⟩
  | .local _ .vmem, ⟨3, _⟩ => ⟨S1792x512, .i8⟩
  | .local _ .vmem, ⟨4, _⟩ => ⟨S28x512, .bf16⟩
  | .local _ .vmem, ⟨5, _⟩ => ⟨S28x512, .bf16⟩
  | .local _ .vmem, ⟨6, _⟩ => ⟨S3584x32, .bf16⟩
  | .local _ .vmem, ⟨7, _⟩ => ⟨S32x3584, .bf16⟩
  | .local _ .vmem, ⟨8, _⟩ => ⟨S32x512, .bf16⟩
  | .local _ .vmem, ⟨9, _⟩ => ⟨S32x512, .bf16⟩
  | .local _ .vmem, ⟨10, _⟩ => ⟨S32x3584, .f32⟩
  | .local _ .vmem, ⟨11, _⟩ => ⟨S32x512, .f32⟩
  | .local _ .vmem, ⟨12, _⟩ => ⟨S32x512, .f32⟩
  | .local _ .vmem, ⟨13, _⟩ => ⟨S1792x32, .bf16⟩
  | .local _ .vmem, ⟨14, _⟩ => ⟨S1792x32, .bf16⟩
  | .local _ .vmem, ⟨15, _⟩ => ⟨S1792x3584, .f32⟩
  | .local _ .vmem, ⟨16, _⟩ => ⟨S32x1792, .f32⟩
  | .local _ .vmem, ⟨17, _⟩ => ⟨S32x1792, .bf16⟩
  | .local _ .vmem, ⟨18, _⟩ => ⟨S1792x512, .bf16⟩
  | _, _ => ⟨S2x896x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![37], ![false]⟩

def k0_cond2 (i : grid0.Coords) : BitVec 1 :=
  let arg0 : BitVec 32 := BitVec.ofNat 32 (i 0).val
  let c36_i32 : BitVec 32 := 36#32
  let v423 : BitVec 1 := Scalar.cmpi .eq arg0 c36_i32
  let v424 : BitVec 32 := Scalar.extui v423
  let c0_i32_188 : BitVec 32 := 0#32
  let v425 : BitVec 1 := Scalar.cmpi .ne v424 c0_i32_188
  v425

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1792x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1792x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3584x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1792x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1792x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2x896x3584 : Shape := ⟨3, ![2, 896, 3584]⟩
abbrev S2x896x18944 : Shape := ⟨3, ![2, 896, 18944]⟩
abbrev S1792x18944 : Shape := ⟨2, ![1792, 18944]⟩
abbrev S28x18944 : Shape := ⟨2, ![28, 18944]⟩
abbrev S3584x32 : Shape := ⟨2, ![3584, 32]⟩
abbrev S32x18944 : Shape := ⟨2, ![32, 18944]⟩
abbrev S1792x3584 : Shape := ⟨2, ![1792, 3584]⟩
abbrev S_ : Shape := ⟨0, ![]⟩
abbrev S28x64x18944 : Shape := ⟨3, ![28, 64, 18944]⟩
abbrev S1792x1792 : Shape := ⟨2, ![1792, 1792]⟩
abbrev S1792x1792x1 : Shape := ⟨3, ![1792, 1792, 1]⟩
abbrev S1792x1792x2 : Shape := ⟨3, ![1792, 1792, 2]⟩
abbrev S1792x32 : Shape := ⟨2, ![1792, 32]⟩
abbrev S2x896x32 : Shape := ⟨3, ![2, 896, 32]⟩

abbrev nBuf : Space → Nat
  | .hbm => 62
  | .vmem => 0
  | .smem => 0
  | _ => 0

abbrev bufTy : (tb : Table) → Fin (tcTables nBuf tb) → BufTy
  | .hbm, ⟨0, _⟩ => ⟨S2x896x3584, .bf16⟩
  | .hbm, ⟨1, _⟩ => ⟨S2x896x18944, .bf16⟩
  | .hbm, ⟨2, _⟩ => ⟨S1792x18944, .i8⟩
  | .hbm, ⟨3, _⟩ => ⟨S28x18944, .bf16⟩
  | .hbm, ⟨4, _⟩ => ⟨S3584x32, .bf16⟩
  | .hbm, ⟨5, _⟩ => ⟨S32x18944, .bf16⟩
  | .hbm, ⟨6, _⟩ => ⟨S1792x3584, .bf16⟩
  | .hbm, ⟨7, _⟩ => ⟨S1792x18944, .bf16⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1792x18944, .i32⟩
  | .hbm, ⟨12, _⟩ => ⟨S_, .i32⟩
  | .hbm, ⟨13, _⟩ => ⟨S1792x18944, .i32⟩
  | .hbm, ⟨14, _⟩ => ⟨S1792x18944, .i32⟩
  | .hbm, ⟨15, _⟩ => ⟨S_, .i32⟩
  | .hbm, ⟨16, _⟩ => ⟨S1792x18944, .i32⟩
  | .hbm, ⟨17, _⟩ => ⟨S1792x18944, .i1⟩
  | .hbm, ⟨18, _⟩ => ⟨S_, .i32⟩
  | .hbm, ⟨19, _⟩ => ⟨S1792x18944, .i32⟩
  | .hbm, ⟨20, _⟩ => ⟨S1792x18944, .i32⟩
  | .hbm, ⟨21, _⟩ => ⟨S1792x18944, .i32⟩
  | .hbm, ⟨22, _⟩ => ⟨S_, .i32⟩
  | .hbm, ⟨23, _⟩ => ⟨S1792x18944, .i32⟩
  | .hbm, ⟨24, _⟩ => ⟨S1792x18944, .i32⟩
  | .hbm, ⟨25, _⟩ => ⟨S_, .i32⟩
  | .hbm, ⟨26, _⟩ => ⟨S1792x18944, .i32⟩
  | .hbm, ⟨27, _⟩ => ⟨S1792x18944, .i1⟩
  | .hbm, ⟨28, _⟩ => ⟨S_, .i32⟩
  | .hbm, ⟨29, _⟩ => ⟨S1792x18944, .i32⟩
  | .hbm, ⟨30, _⟩ => ⟨S1792x18944, .i32⟩
  | .hbm, ⟨31, _⟩ => ⟨S1792x18944, .i32⟩
  | .hbm, ⟨32, _⟩ => ⟨S28x64x18944, .bf16⟩
  | .hbm, ⟨33, _⟩ => ⟨S1792x18944, .bf16⟩
  | .hbm, ⟨34, _⟩ => ⟨S1792x18944, .bf16⟩
  | .hbm, ⟨35, _⟩ => ⟨S1792x18944, .bf16⟩
  | .hbm, ⟨36, _⟩ => ⟨S1792x18944, .bf16⟩
  | .hbm, ⟨37, _⟩ => ⟨S1792x18944, .bf16⟩
  | .hbm, ⟨38, _⟩ => ⟨S1792x1792, .f32⟩
  | .hbm, ⟨39, _⟩ => ⟨S1792x1792, .f32⟩
  | .hbm, ⟨40, _⟩ => ⟨S1792x1792x1, .f32⟩
  | .hbm, ⟨41, _⟩ => ⟨S1792x1792x1, .f32⟩
  | .hbm, ⟨42, _⟩ => ⟨S1792x1792x2, .f32⟩
  | .hbm, ⟨43, _⟩ => ⟨S1792x3584, .f32⟩
  | .hbm, ⟨44, _⟩ => ⟨S1792x32, .f32⟩
  | .hbm, ⟨45, _⟩ => ⟨S1792x32, .bf16⟩
  | .hbm, ⟨46, _⟩ => ⟨S1792x32, .f32⟩
  | .hbm, ⟨47, _⟩ => ⟨S1792x32, .bf16⟩
  | .hbm, ⟨48, _⟩ => ⟨S1792x3584, .f32⟩
  | .hbm, ⟨49, _⟩ => ⟨S1792x3584, .f32⟩
  | .hbm, ⟨50, _⟩ => ⟨S1792x3584, .f32⟩
  | .hbm, ⟨51, _⟩ => ⟨S1792x3584, .f32⟩
  | .hbm, ⟨52, _⟩ => ⟨S1792x3584, .bf16⟩
  | .hbm, ⟨53, _⟩ => ⟨S2x896x3584, .bf16⟩
  | .hbm, ⟨54, _⟩ => ⟨S3584x32, .f32⟩
  | .hbm, ⟨55, _⟩ => ⟨S3584x32, .f32⟩
  | .hbm, ⟨56, _⟩ => ⟨S3584x32, .f32⟩
  | .hbm, ⟨57, _⟩ => ⟨S32x18944, .f32⟩
  | .hbm, ⟨58, _⟩ => ⟨S32x18944, .f32⟩
  | .hbm, ⟨59, _⟩ => ⟨S32x18944, .f32⟩
  | .hbm, ⟨60, _⟩ => ⟨S2x896x32, .bf16⟩
  | .hbm, ⟨61, _⟩ => ⟨S2x896x32, .bf16⟩
  | _, _ => ⟨S2x896x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Proof.Kernel.Base.lean ====
/- What the runs of the kernel's body are stated over: its branch conditions, its idle outputs, its buffers. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffixV
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

/-! ## The branch conditions over the points -/

/-- The condition of the first-point branch of the body. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, e0]
    word_cmp
   : ∀ t : Fin grid0.N, cond0_0 (grid0.coords t) ↔ t.val % 37 = 0)
/-- The condition of the last-point branch of the body. -/
abbrev cond0_1 (i : grid0.Coords) : Prop := k0_cond2 i = 1#1
/-- It holds at point 36 only. -/
theorem hcond0_1 : ∀ t : Fin cfg0.N, cond0_1 (grid0.coords t) ↔ t.val % 37 = 36 :=
  (fun t => by
    have ht : t.val < 37 := Nat.lt_of_lt_of_eq t.isLt N_0
    have e0 : (grid0.coords t 0).val = t.val / 1 % 37 := Pipeline.Grid.coords_val t 0 (by decide) rfl
    simp only [cond0_1, k0_cond2, e0]
    word_cmp
   : ∀ t : Fin grid0.N, cond0_1 (grid0.coords t) ↔ t.val % 37 = 36)

/-! ## Where the outputs are idle, and where they are written back -/

/-- Outputs 6 and 8 (the `lora_a` gradient and `g`) are idle before the last point and not written back there. -/
theorem idle_68 : ∀ t : Fin cfg0.N, ¬cond0_1 (grid0.coords t) →
    (cfg0.idle 6 (grid0.coords t) = true ∧ (cfg0.win 6).flush t = false) ∧ (cfg0.idle 8 (grid0.coords t) = true ∧ (cfg0.win 8).flush t = false) := by
  decide +kernel
/-- At the last point they are live. -/
theorem live_68 : ∀ t : Fin cfg0.N, cond0_1 (grid0.coords t) → cfg0.idle 6 (grid0.coords t) = false ∧ cfg0.idle 8 (grid0.coords t) = false := by
  decide +kernel
/-- Output 9 (`xa`) is live at the first point. -/
theorem live_9 : ∀ t : Fin cfg0.N, cond0_0 (grid0.coords t) → cfg0.idle 9 (grid0.coords t) = false := by
  decide +kernel
/-- Output 9 is idle after the first point. -/
theorem idle_9 : ∀ t : Fin cfg0.N, ¬cond0_0 (grid0.coords t) → cfg0.idle 9 (grid0.coords t) = true := by
  decide +kernel
/-- Output 9 is written back at the last point only. -/
theorem flush_9 : ∀ t : Fin cfg0.N, (cfg0.win 9).flush t = decide (t.val % 37 = 36) := by
  decide +kernel

/-! ## The buffers of the body -/

/-- The scratch buffers: the accumulator of `dx`, the accumulator of `g` transposed, `xa` transposed, the transfer buffer. -/
abbrev scM0_0 : Memref sig .tc .vmem S1792x3584 .f32 := Memref.whole cc0_scratch0
abbrev scM0_1 : Memref sig .tc .vmem S32x1792 .f32 := Memref.whole cc0_scratch1
abbrev scM0_2 : Memref sig .tc .vmem S32x1792 .bf16 := Memref.whole cc0_scratch2
abbrev scM0_3 : Memref sig .tc .vmem S1792x512 .bf16 := Memref.whole cc0_scratch3
/-- The array of `x` and the array of `dx`, which the body transfers from and to itself. -/
abbrev hbM0_0 : Memref sig .tc .hbm S1792x3584 .bf16 := Memref.whole main_v0
abbrev hbM0_1 : Memref sig .tc .hbm S1792x3584 .bf16 := Memref.whole main_v3_0
/-- The contents of a memref's buffer on core `c`, and the buffer held whole. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphore. -/
abbrev osem0 : Fin 1 → SemLoc sig := fun j => (![SemLoc.dma 15] : Fin 1 → SemLoc sig) j
/-- The kernel's own semaphore is apart from those of the windows. -/
theorem ownSemFacts0 : Pipeline.OwnSemFacts spec0 osem0 := by decide
/-- The kernel's own semaphores are the one of its transfers. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0) := by
  rw [Pipeline.ownSems0_eq_of_list c osem0 [0] (by decide) (by decide)]; rfl
/-- The array that the body reads by transfers, and the one that it writes by transfers. -/
def HH : Finset (Ref sig .tc) := {main_v0}
def RR : Finset (Ref sig .tc) := {main_v3_0}
/-- The array the body reads by transfers is staged by no window. -/
theorem HH_sub : HH ⊆ Pipeline.restRefs sig spec0 := by decide
/-- The array the body writes by transfers is staged by no window and is not one that it reads by transfers. -/
theorem RR_sub : RR ⊆ Pipeline.restRefs sig spec0 \ HH := by decide

/-- The launch's invariant, conjunct by conjunct: the scratch buffers at some contents, the semaphore at zero, the array of `x`
    at its contents and the array of `dx` at given contents. -/
theorem Phi0_eq (V G : (c : Dev nD) → (b : Ref sig .tc) → Buf (Elt F) ((c.tc : Thread nD τ).loc b)) (c : Dev nD) :
    (Pipeline.ΦDRV osem0 spec0 HH RR V G c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
          ∗ semVal ((c : Thread nD τ), SemLoc.dma 15) 0 ∗ hbPt0 c hbM0_0 (V c main_v0) ∗ hbPt0 c hbM0_1 (G c main_v3_0)) := by
  unfold Pipeline.ΦDRV HH RR
  rw [scopedRest0_eq, ownSems00_eq, BI.bigSep_eq_bigSepL_of_eq [main_v0] (by decide) (by decide),
    BI.bigSep_eq_bigSepL_of_eq [main_v3_0] (by decide) (by decide)]
  simp only [scM0_0, scM0_1, scM0_2, scM0_3, owns_whole]; rfl

end Cert.Kernel.Hand

end
-- ==== Proof.Kernel.RunA.lean ====
/- The run of the kernel's body at the first point. -/
module

public import proofs.«01_k».proof.Proof.Kernel.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (c : Dev nD) (i : grid0.Coords)
variable (arg2 : Memref sig .tc .vmem S1792x512 .bf16) (harg2 : arg2.IsWhole)
variable (arg3 : Memref sig .tc .vmem S1792x512 .i8) (harg3 : arg3.IsWhole)
variable (arg4 : Memref sig .tc .vmem S28x512 .bf16) (harg4 : arg4.IsWhole)
variable (arg5 : Memref sig .tc .vmem S3584x32 .bf16) (harg5 : arg5.IsWhole)
variable (arg6 : Memref sig .tc .vmem S32x3584 .bf16) (harg6 : arg6.IsWhole)
variable (arg7 : Memref sig .tc .vmem S32x512 .bf16) (harg7 : arg7.IsWhole)
variable (arg9 : Memref sig .tc .vmem S32x3584 .f32) (harg9 : arg9.IsWhole)
variable (arg10 : Memref sig .tc .vmem S32x512 .f32) (harg10 : arg10.IsWhole)
variable (arg11 : Memref sig .tc .vmem S1792x32 .bf16) (harg11 : arg11.IsWhole)
variable (arg12 : Memref sig .tc .vmem S1792x32 .bf16) (harg12 : arg12.IsWhole)
variable (arg13 : Memref sig .tc .vmem S1792x3584 .f32) (harg13 : arg13.IsWhole)
variable (arg14 : Memref sig .tc .vmem S32x1792 .f32) (harg14 : arg14.IsWhole)
variable (arg15 : Memref sig .tc .vmem S32x1792 .bf16) (harg15 : arg15.IsWhole)
variable (arg16 : Memref sig .tc .vmem S1792x512 .bf16) (harg16 : arg16.IsWhole)

set_option maxHeartbeats 1200000 in
/-- The body at the first point: what its stores leave in the `lora_b` gradient block (`LB`), in `xa` (`LX`) and in the
    carried scratch buffers, as lists of pieces (last first), with the proof that the body runs to the continuation holding
    exactly those. The accumulators of the other two outputs are handed back as found. -/
noncomputable def kernelRun0_A (hc0 : cond0_0 i) (hc1 : ¬cond0_1 i)
    (x0 : Vec F S1792x512 .bf16) (x1 : Vec F S1792x512 .i8) (x2 : Vec F S28x512 .bf16) (x3 : Vec F S3584x32 .bf16)
    (x4 : Vec F S32x3584 .bf16) (x5 : Vec F S32x512 .bf16) (fh0 : HbBuf0 (F := F) c hbM0_0) :
    Σ' (LB : List (View.Piece (Elt F) S32x512 .f32)), Σ' (LX : List (View.Piece (Elt F) S1792x32 .bf16)), Σ' (LS0 : List (View.Piece (Elt F) S1792x3584 .f32)), Σ' (LS1 : List (View.Piece (Elt F) S32x1792 .f32)), Σ' (LS2 : List (View.Piece (Elt F) S32x1792 .bf16)), { LS3 : List (View.Piece (Elt F) S1792x512 .bf16) //
      ∀ (xi6 : Vec F S32x3584 .f32) (xi8 : Vec F S1792x32 .bf16) (fh1 : HbBuf0 (F := F) c hbM0_1) (W : Waits sig Unit) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg9 fullShare xi6
            ∗ (∃ d, owns (c : Thread nD τ) arg10 fullShare d)
            ∗ owns (c : Thread nD τ) arg11 fullShare xi8
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ semVal ((c : Thread nD τ), SemLoc.dma 15) 0
            ∗ hbPt0 c hbM0_0 fh0
            ∗ hbPt0 c hbM0_1 fh1
            ∗ owes (c : Thread nD τ) 0 W
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg9 fullShare xi6
            ∗ (∃ f, arg10.view.loc (c : Thread nD τ) ↦[arg10.view.set]{fullShare} arg10.view.writes (Elt F) f LB)
            ∗ owns (c : Thread nD τ) arg11 fullShare xi8
            ∗ (∃ f, arg12.view.loc (c : Thread nD τ) ↦[arg12.view.set]{fullShare} arg12.view.writes (Elt F) f LX)
            ∗ (∃ f, arg13.view.loc (c : Thread nD τ) ↦[arg13.view.set]{fullShare} arg13.view.writes (Elt F) f LS0)
            ∗ (∃ f, arg14.view.loc (c : Thread nD τ) ↦[arg14.view.set]{fullShare} arg14.view.writes (Elt F) f LS1)
            ∗ (∃ f, arg15.view.loc (c : Thread nD τ) ↦[arg15.view.set]{fullShare} arg15.view.writes (Elt F) f LS2)
            ∗ (∃ f, arg16.view.loc (c : Thread nD τ) ↦[arg16.view.set]{fullShare} arg16.view.writes (Elt F) f LS3)
            ∗ semVal ((c : Thread nD τ), SemLoc.dma 15) 0
            ∗ hbPt0 c hbM0_0 fh0
            ∗ hbPt0 c hbM0_1 fh1
            ∗ (∃ W', owes (c : Thread nD τ) 0 W')) -∗ K ⟨⟩))
          ⊢ wp frame (wpE (defs₀ (F := F)) Variants.none c none) Set.univ (cc0_qlora_bwd i (Memref.whole main_v0) (Memref.isWhole_whole _) arg2 harg2 arg3 harg3 arg4 harg4 arg5 harg5 arg6 harg6 arg7 harg7
            (Memref.whole main_v3_0) (Memref.isWhole_whole _) arg9 harg9 arg10 harg10 arg11 harg11 arg12 harg12 arg13 harg13 arg14 harg14 arg15 harg15 arg16 harg16 cc0_scratch4) K } := by
  refine ⟨?_, ?_, ?_, ?_, ?_, ?_, fun xi6 xi8 fh1 W K => ?run⟩
  case run =>
    simp only [cc0_qlora_bwd_eq_skeleton]; unfold cc0_qlora_bwd_skel
    simp only [k0_part8_eq_skeleton, k0_part1_eq_skeleton, k0_part2_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H6⟩, ⟨%d10, %f10, -, H7⟩, ⟨%f11, %hf11, H8⟩, ⟨%d12, %f12, -, H9⟩, ⟨%d13, %f13, -, HS0⟩, ⟨%d14, %f14, -, HS1⟩, ⟨%d15, %f15, -, HS2⟩, ⟨%d16, %f16, -, HS3⟩, Hq0, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf9; obtain rfl := harg11.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hh0]; · iexact Hh0
    isplitl [Hh1]; · iexact Hh1
    iexists _; iexact HW

end Cert.Kernel.Hand

end
-- ==== Proof.Kernel.RunB.lean ====
/- The run of the kernel's body at a middle point. -/
module

public import proofs.«01_k».proof.Proof.Kernel.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (c : Dev nD) (i : grid0.Coords)
variable (arg2 : Memref sig .tc .vmem S1792x512 .bf16) (harg2 : arg2.IsWhole)
variable (arg3 : Memref sig .tc .vmem S1792x512 .i8) (harg3 : arg3.IsWhole)
variable (arg4 : Memref sig .tc .vmem S28x512 .bf16) (harg4 : arg4.IsWhole)
variable (arg5 : Memref sig .tc .vmem S3584x32 .bf16) (harg5 : arg5.IsWhole)
variable (arg6 : Memref sig .tc .vmem S32x3584 .bf16) (harg6 : arg6.IsWhole)
variable (arg7 : Memref sig .tc .vmem S32x512 .bf16) (harg7 : arg7.IsWhole)
variable (arg9 : Memref sig .tc .vmem S32x3584 .f32) (harg9 : arg9.IsWhole)
variable (arg10 : Memref sig .tc .vmem S32x512 .f32) (harg10 : arg10.IsWhole)
variable (arg11 : Memref sig .tc .vmem S1792x32 .bf16) (harg11 : arg11.IsWhole)
variable (arg12 : Memref sig .tc .vmem S1792x32 .bf16) (harg12 : arg12.IsWhole)
variable (arg13 : Memref sig .tc .vmem S1792x3584 .f32) (harg13 : arg13.IsWhole)
variable (arg14 : Memref sig .tc .vmem S32x1792 .f32) (harg14 : arg14.IsWhole)
variable (arg15 : Memref sig .tc .vmem S32x1792 .bf16) (harg15 : arg15.IsWhole)
variable (arg16 : Memref sig .tc .vmem S1792x512 .bf16) (harg16 : arg16.IsWhole)

set_option maxHeartbeats 1200000 in
/-- The body at a middle point: the pieces stored into the `lora_b` gradient block (`LB`), into the accumulator of `dx` (`LS0`)
    and into the accumulator of `g` (`LS1`), with the proof that the body runs to the continuation holding exactly those.
    Every other output is handed back as found. -/
noncomputable def kernelRun0_B (hc0 : ¬cond0_0 i) (hc1 : ¬cond0_1 i)
    (x0 : Vec F S1792x512 .bf16) (x1 : Vec F S1792x512 .i8) (x2 : Vec F S28x512 .bf16) (x3 : Vec F S3584x32 .bf16)
    (x4 : Vec F S32x3584 .bf16) (x5 : Vec F S32x512 .bf16) (xs0 : Vec F S1792x3584 .f32) (xs1 : Vec F S32x1792 .f32) (xs2 : Vec F S32x1792 .bf16) (xs3 : Vec F S1792x512 .bf16) (fh0 : HbBuf0 (F := F) c hbM0_0) :
    Σ' (LB : List (View.Piece (Elt F) S32x512 .f32)), Σ' (LS0 : List (View.Piece (Elt F) S1792x3584 .f32)), { LS1 : List (View.Piece (Elt F) S32x1792 .f32) //
      ∀ (xi6 : Vec F S32x3584 .f32) (xi8 : Vec F S1792x32 .bf16) (xi9 : Vec F S1792x32 .bf16) (fh1 : HbBuf0 (F := F) c hbM0_1) (W : Waits sig Unit) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg9 fullShare xi6
            ∗ (∃ d, owns (c : Thread nD τ) arg10 fullShare d)
            ∗ owns (c : Thread nD τ) arg11 fullShare xi8
            ∗ owns (c : Thread nD τ) arg12 fullShare xi9
            ∗ owns (c : Thread nD τ) arg13 fullShare xs0
            ∗ owns (c : Thread nD τ) arg14 fullShare xs1
            ∗ owns (c : Thread nD τ) arg15 fullShare xs2
            ∗ owns (c : Thread nD τ) arg16 fullShare xs3
            ∗ semVal ((c : Thread nD τ), SemLoc.dma 15) 0
            ∗ hbPt0 c hbM0_0 fh0
            ∗ hbPt0 c hbM0_1 fh1
            ∗ owes (c : Thread nD τ) 0 W
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg9 fullShare xi6
            ∗ (∃ f, arg10.view.loc (c : Thread nD τ) ↦[arg10.view.set]{fullShare} arg10.view.writes (Elt F) f LB)
            ∗ owns (c : Thread nD τ) arg11 fullShare xi8
            ∗ owns (c : Thread nD τ) arg12 fullShare xi9
            ∗ (∃ f, arg13.view.loc (c : Thread nD τ) ↦[arg13.view.set]{fullShare} arg13.view.writes (Elt F) f LS0)
            ∗ (∃ f, arg14.view.loc (c : Thread nD τ) ↦[arg14.view.set]{fullShare} arg14.view.writes (Elt F) f LS1)
            ∗ owns (c : Thread nD τ) arg15 fullShare xs2
            ∗ owns (c : Thread nD τ) arg16 fullShare xs3
            ∗ semVal ((c : Thread nD τ), SemLoc.dma 15) 0
            ∗ hbPt0 c hbM0_0 fh0
            ∗ hbPt0 c hbM0_1 fh1
            ∗ (∃ W', owes (c : Thread nD τ) 0 W')) -∗ K ⟨⟩))
          ⊢ wp frame (wpE (defs₀ (F := F)) Variants.none c none) Set.univ (cc0_qlora_bwd i (Memref.whole main_v0) (Memref.isWhole_whole _) arg2 harg2 arg3 harg3 arg4 harg4 arg5 harg5 arg6 harg6 arg7 harg7
            (Memref.whole main_v3_0) (Memref.isWhole_whole _) arg9 harg9 arg10 harg10 arg11 harg11 arg12 harg12 arg13 harg13 arg14 harg14 arg15 harg15 arg16 harg16 cc0_scratch4) K } := by
  refine ⟨?_, ?_, ?_, fun xi6 xi8 xi9 fh1 W K => ?run⟩
  case run =>
    simp only [cc0_qlora_bwd_eq_skeleton]; unfold cc0_qlora_bwd_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H6⟩, ⟨%d10, %f10, -, H7⟩, ⟨%f11, %hf11, H8⟩, ⟨%f12, %hf12, H9⟩, ⟨%f13, %hf13, HS0⟩, ⟨%f14, %hf14, HS1⟩, ⟨%f15, %hf15, HS2⟩, ⟨%f16, %hf16, HS3⟩, Hq0, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [H9]
    · iexists _; isplitr; · ipureintro; exact harg12.read_unread _
      iexact H9
    isplitl [HS0]; · iexists _; iexact HS0
    isplitl [HS1]; · iexists _; iexact HS1
    isplitl [HS2]
    · iexists _; isplitr; · ipureintro; exact harg15.read_unread _
      iexact HS2
    isplitl [HS3]
    · iexists _; isplitr; · ipureintro; exact harg16.read_unread _
      iexact HS3
    isplitl [Hq0]; · iexact Hq0
    isplitl [Hh0]; · iexact Hh0
    isplitl [Hh1]; · iexact Hh1
    iexists _; iexact HW

end Cert.Kernel.Hand

end
-- ==== Proof.Kernel.RunC.lean ====
/- The run of the kernel's body at the last point. -/
module

public import proofs.«01_k».proof.Proof.Kernel.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (c : Dev nD) (i : grid0.Coords)
variable (arg2 : Memref sig .tc .vmem S1792x512 .bf16) (harg2 : arg2.IsWhole)
variable (arg3 : Memref sig .tc .vmem S1792x512 .i8) (harg3 : arg3.IsWhole)
variable (arg4 : Memref sig .tc .vmem S28x512 .bf16) (harg4 : arg4.IsWhole)
variable (arg5 : Memref sig .tc .vmem S3584x32 .bf16) (harg5 : arg5.IsWhole)
variable (arg6 : Memref sig .tc .vmem S32x3584 .bf16) (harg6 : arg6.IsWhole)
variable (arg7 : Memref sig .tc .vmem S32x512 .bf16) (harg7 : arg7.IsWhole)
variable (arg9 : Memref sig .tc .vmem S32x3584 .f32) (harg9 : arg9.IsWhole)
variable (arg10 : Memref sig .tc .vmem S32x512 .f32) (harg10 : arg10.IsWhole)
variable (arg11 : Memref sig .tc .vmem S1792x32 .bf16) (harg11 : arg11.IsWhole)
variable (arg12 : Memref sig .tc .vmem S1792x32 .bf16) (harg12 : arg12.IsWhole)
variable (arg13 : Memref sig .tc .vmem S1792x3584 .f32) (harg13 : arg13.IsWhole)
variable (arg14 : Memref sig .tc .vmem S32x1792 .f32) (harg14 : arg14.IsWhole)
variable (arg15 : Memref sig .tc .vmem S32x1792 .bf16) (harg15 : arg15.IsWhole)
variable (arg16 : Memref sig .tc .vmem S1792x512 .bf16) (harg16 : arg16.IsWhole)

set_option maxHeartbeats 1200000 in
/-- The body at the last point: the pieces stored into the `lora_a` gradient (`LA`), the `lora_b` gradient block (`LB`), `g` (`LG`) and
    the two accumulators, and what its transfers leave in the array of `dx` (`GD`), with the proof that the body runs to the
    continuation holding exactly those. `xa` is handed back as found. -/
noncomputable def kernelRun0_C (hc0 : ¬cond0_0 i) (hc1 : cond0_1 i)
    (x0 : Vec F S1792x512 .bf16) (x1 : Vec F S1792x512 .i8) (x2 : Vec F S28x512 .bf16) (x3 : Vec F S3584x32 .bf16)
    (x4 : Vec F S32x3584 .bf16) (x5 : Vec F S32x512 .bf16) (xs0 : Vec F S1792x3584 .f32) (xs1 : Vec F S32x1792 .f32) (xs2 : Vec F S32x1792 .bf16) (xs3 : Vec F S1792x512 .bf16) (fh0 : HbBuf0 (F := F) c hbM0_0) (fh1 : HbBuf0 (F := F) c hbM0_1) :
    Σ' (LA : List (View.Piece (Elt F) S32x3584 .f32)), Σ' (LB : List (View.Piece (Elt F) S32x512 .f32)), Σ' (LG : List (View.Piece (Elt F) S1792x32 .bf16)), Σ' (LS0 : List (View.Piece (Elt F) S1792x3584 .f32)), Σ' (LS1 : List (View.Piece (Elt F) S32x1792 .f32)), { GD : HbBuf0 (F := F) c hbM0_1 //
      ∀ (xi9 : Vec F S1792x32 .bf16) (W : Waits sig Unit) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg9 fullShare d)
            ∗ (∃ d, owns (c : Thread nD τ) arg10 fullShare d)
            ∗ (∃ d, owns (c : Thread nD τ) arg11 fullShare d)
            ∗ owns (c : Thread nD τ) arg12 fullShare xi9
            ∗ owns (c : Thread nD τ) arg13 fullShare xs0
            ∗ owns (c : Thread nD τ) arg14 fullShare xs1
            ∗ owns (c : Thread nD τ) arg15 fullShare xs2
            ∗ owns (c : Thread nD τ) arg16 fullShare xs3
            ∗ semVal ((c : Thread nD τ), SemLoc.dma 15) 0
            ∗ hbPt0 c hbM0_0 fh0
            ∗ hbPt0 c hbM0_1 fh1
            ∗ owes (c : Thread nD τ) 0 W
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ f, arg9.view.loc (c : Thread nD τ) ↦[arg9.view.set]{fullShare} arg9.view.writes (Elt F) f LA)
            ∗ (∃ f, arg10.view.loc (c : Thread nD τ) ↦[arg10.view.set]{fullShare} arg10.view.writes (Elt F) f LB)
            ∗ (∃ f, arg11.view.loc (c : Thread nD τ) ↦[arg11.view.set]{fullShare} arg11.view.writes (Elt F) f LG)
            ∗ owns (c : Thread nD τ) arg12 fullShare xi9
            ∗ (∃ f, arg13.view.loc (c : Thread nD τ) ↦[arg13.view.set]{fullShare} arg13.view.writes (Elt F) f LS0)
            ∗ (∃ f, arg14.view.loc (c : Thread nD τ) ↦[arg14.view.set]{fullShare} arg14.view.writes (Elt F) f LS1)
            ∗ owns (c : Thread nD τ) arg15 fullShare xs2
            ∗ (∃ d, owns (c : Thread nD τ) arg16 fullShare d)
            ∗ semVal ((c : Thread nD τ), SemLoc.dma 15) 0
            ∗ hbPt0 c hbM0_0 fh0
            ∗ hbPt0 c hbM0_1 GD
            ∗ (∃ W', owes (c : Thread nD τ) 0 W')) -∗ K ⟨⟩))
          ⊢ wp frame (wpE (defs₀ (F := F)) Variants.none c none) Set.univ (cc0_qlora_bwd i (Memref.whole main_v0) (Memref.isWhole_whole _) arg2 harg2 arg3 harg3 arg4 harg4 arg5 harg5 arg6 harg6 arg7 harg7
            (Memref.whole main_v3_0) (Memref.isWhole_whole _) arg9 harg9 arg10 harg10 arg11 harg11 arg12 harg12 arg13 harg13 arg14 harg14 arg15 harg15 arg16 harg16 cc0_scratch4) K } := by
  refine ⟨?_, ?_, ?_, ?_, ?_, ?_, fun xi9 W K => ?run⟩
  case run =>
    simp only [cc0_qlora_bwd_eq_skeleton]; unfold cc0_qlora_bwd_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H6⟩, ⟨%d10, %f10, -, H7⟩, ⟨%d11, %f11, -, H8⟩, ⟨%f12, %hf12, H9⟩, ⟨%f13, %hf13, HS0⟩, ⟨%f14, %hf14, HS1⟩, ⟨%f15, %hf15, HS2⟩, ⟨%f16, %hf16, HS3⟩, Hq0, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]
    · iexists _; isplitr; · ipureintro; exact harg12.read_unread _
      iexact H9
    isplitl [HS0]; · iexists _; iexact HS0
    isplitl [HS1]; · iexists _; iexact HS1
    isplitl [HS2]
    · iexists _; isplitr; · ipureintro; exact harg15.read_unread _
      iexact HS2
    isplitl [HS3]
    · iexists _, _; isplitr; swap; · iexact HS3
      ipureintro; rfl
    isplitl [Hq0]; · iexact Hq0
    isplitl [Hh0]; · iexact Hh0
    isplitl [Hh1]; · iexact Hh1
    iexists _; iexact HW

end Cert.Kernel.Hand

end
-- ==== Proof.Kernel.Vals.lean ====
/- What the body leaves in each buffer at each point of the grid, as a recursion over the points. -/
module

public import proofs.«01_k».proof.Proof.Kernel.RunA
public import proofs.«01_k».proof.Proof.Kernel.RunB
public import proofs.«01_k».proof.Proof.Kernel.RunC

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-- The staging memrefs of the windows at point `t`, and that each is a whole buffer. -/
abbrev ms0_0 (t : Fin cfg0.N) : Memref sig .tc .vmem S1792x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S28x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x32 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x3584 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x3584 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1792x32 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1792x32 .bf16 := win0_9.stage (cfg0.slots t 9)
abbrev hs0_9 (t : Fin cfg0.N) : (ms0_9 t).IsWhole := hstage0_9 ((cfg0.slots t 9).cast nbuf0_9)

/-- What the body carries from point to point: the accumulator of `dx`, the accumulator of `g` transposed, `xa` transposed, and
    the transfer buffer. -/
structure St (F : FTy → Type) where
  acc : Vec F S1792x3584 .f32
  gt : Vec F S32x1792 .f32
  xat : Vec F S32x1792 .bf16
  xb : Vec F S1792x512 .bf16

/-- The body's run at point `t` of the pipeline, where the first-point branch is taken, -/
noncomputable def rA (c : Dev nD) (t : Fin cfg0.N) (hc0 : cond0_0 (grid0.coords t)) (hc1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (V m c main_v0)
/-- where neither branch is, -/
noncomputable def rB (c : Dev nD) (t : Fin cfg0.N) (hc0 : ¬cond0_0 (grid0.coords t)) (hc1 : ¬cond0_1 (grid0.coords t)) (s : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) s.acc s.gt s.xat s.xb (V m c main_v0)
/-- and where the last-point branch is. -/
noncomputable def rC (c : Dev nD) (t : Fin cfg0.N) (hc0 : ¬cond0_0 (grid0.coords t)) (hc1 : cond0_1 (grid0.coords t)) (s : St F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) s.acc s.gt s.xat s.xb (V m c main_v0) (V m c main_v3_0)

/-! ## The pieces of each list cover their buffer -/

/-- The first grid point writes every index of the window of `d_lora_b`. -/
theorem cover_A_LB (c : Dev nD) (t : Fin cfg0.N) (hc0 : cond0_0 (grid0.coords t)) (hc1 : ¬cond0_1 (grid0.coords t)) (y) : ∃ pc ∈ (rA m c t hc0 hc1).1, y ∈ pc.1.set :=
  View.cover_of_tiledL _ S32x512.size (by sl_kernel_rfl) y
/-- The first grid point writes every index of the window of `xa`. -/
theorem cover_A_LX (c : Dev nD) (t : Fin cfg0.N) (hc0 : cond0_0 (grid0.coords t)) (hc1 : ¬cond0_1 (grid0.coords t)) (y) : ∃ pc ∈ (rA m c t hc0 hc1).2.1, y ∈ pc.1.set :=
  View.cover_of_tiledL _ S1792x32.size (by sl_kernel_rfl) y
/-- The first grid point writes every index of the accumulator of `dx`. -/
theorem cover_A_LS0 (c : Dev nD) (t : Fin cfg0.N) (hc0 : cond0_0 (grid0.coords t)) (hc1 : ¬cond0_1 (grid0.coords t)) (y) : ∃ pc ∈ (rA m c t hc0 hc1).2.2.1, y ∈ pc.1.set :=
  View.cover_of_wholeMem _ (by sl_whole_mem) y
/-- The first grid point writes every index of the accumulator of `g`. -/
theorem cover_A_LS1 (c : Dev nD) (t : Fin cfg0.N) (hc0 : cond0_0 (grid0.coords t)) (hc1 : ¬cond0_1 (grid0.coords t)) (y) : ∃ pc ∈ (rA m c t hc0 hc1).2.2.2.1, y ∈ pc.1.set :=
  View.cover_of_tiledL _ S32x1792.size (by sl_kernel_rfl) y
/-- The first grid point writes every index of the transposed `xa`. -/
theorem cover_A_LS2 (c : Dev nD) (t : Fin cfg0.N) (hc0 : cond0_0 (grid0.coords t)) (hc1 : ¬cond0_1 (grid0.coords t)) (y) : ∃ pc ∈ (rA m c t hc0 hc1).2.2.2.2.1, y ∈ pc.1.set :=
  View.cover_of_tiledL _ S32x1792.size (by sl_kernel_rfl) y
/-- The first grid point writes every index of the buffer of the pieces of `x`. -/
theorem cover_A_LS3 (c : Dev nD) (t : Fin cfg0.N) (hc0 : cond0_0 (grid0.coords t)) (hc1 : ¬cond0_1 (grid0.coords t)) (y) : ∃ pc ∈ (rA m c t hc0 hc1).2.2.2.2.2.1, y ∈ pc.1.set :=
  View.cover_of_tiledL _ S1792x512.size (by sl_kernel_rfl) y
/-- An inner grid point writes every index of the window of `d_lora_b`. -/
theorem cover_B_LB (c : Dev nD) (t : Fin cfg0.N) (hc0 : ¬cond0_0 (grid0.coords t)) (hc1 : ¬cond0_1 (grid0.coords t)) (s : St F) (y) : ∃ pc ∈ (rB m c t hc0 hc1 s).1, y ∈ pc.1.set :=
  View.cover_of_tiledL _ S32x512.size (by sl_kernel_rfl) y
/-- An inner grid point writes every index of the accumulator of `dx`. -/
theorem cover_B_LS0 (c : Dev nD) (t : Fin cfg0.N) (hc0 : ¬cond0_0 (grid0.coords t)) (hc1 : ¬cond0_1 (grid0.coords t)) (s : St F) (y) : ∃ pc ∈ (rB m c t hc0 hc1 s).2.1, y ∈ pc.1.set :=
  View.cover_of_tiledL _ ![1792, 256] (by sl_kernel_rfl) y
/-- An inner grid point writes every index of the accumulator of `g`. -/
theorem cover_B_LS1 (c : Dev nD) (t : Fin cfg0.N) (hc0 : ¬cond0_0 (grid0.coords t)) (hc1 : ¬cond0_1 (grid0.coords t)) (s : St F) (y) : ∃ pc ∈ (rB m c t hc0 hc1 s).2.2.1, y ∈ pc.1.set :=
  View.cover_of_tiledL _ S32x1792.size (by sl_kernel_rfl) y
/-- The last grid point writes every index of the window of the transposed `d_lora_a`. -/
theorem cover_C_LA (c : Dev nD) (t : Fin cfg0.N) (hc0 : ¬cond0_0 (grid0.coords t)) (hc1 : cond0_1 (grid0.coords t)) (s : St F) (y) : ∃ pc ∈ (rC m c t hc0 hc1 s).1, y ∈ pc.1.set :=
  View.cover_of_tiledL _ ![32, 512] (by sl_kernel_rfl) y
/-- The last grid point writes every index of the window of `d_lora_b`. -/
theorem cover_C_LB (c : Dev nD) (t : Fin cfg0.N) (hc0 : ¬cond0_0 (grid0.coords t)) (hc1 : cond0_1 (grid0.coords t)) (s : St F) (y) : ∃ pc ∈ (rC m c t hc0 hc1 s).2.1, y ∈ pc.1.set :=
  View.cover_of_tiledL _ S32x512.size (by sl_kernel_rfl) y
/-- The last grid point writes every index of the window of `g`. -/
theorem cover_C_LG (c : Dev nD) (t : Fin cfg0.N) (hc0 : ¬cond0_0 (grid0.coords t)) (hc1 : cond0_1 (grid0.coords t)) (s : St F) (y) : ∃ pc ∈ (rC m c t hc0 hc1 s).2.2.1, y ∈ pc.1.set :=
  View.cover_of_tiledL _ S1792x32.size (by sl_kernel_rfl) y

/-! ## What is held after each point -/

/-- The first point, and the last. -/
abbrev t0 : Fin cfg0.N := ⟨0, by rw [show cfg0.N = 37 from N_0]; omega⟩
abbrev t36 : Fin cfg0.N := ⟨36, by rw [show cfg0.N = 37 from N_0]; omega⟩
/-- The first grid point takes the first branch. -/
theorem c0_t0 : cond0_0 (grid0.coords t0) := (hcond0_0 t0).mpr rfl
/-- The first grid point does not take the last branch. -/
theorem c1_t0 : ¬cond0_1 (grid0.coords t0) := fun h => absurd ((hcond0_1 t0).mp h) (by decide)
/-- The last grid point does not take the first branch. -/
theorem c0_t36 : ¬cond0_0 (grid0.coords t36) := fun h => absurd ((hcond0_0 t36).mp h) (by decide)
/-- The last grid point takes the last branch. -/
theorem c1_t36 : cond0_1 (grid0.coords t36) := (hcond0_1 t36).mpr rfl
/-- A grid point other than the first does not take the first branch. -/
theorem mid_c0 {t : Fin cfg0.N} (h : t.val ≠ 0) : ¬cond0_0 (grid0.coords t) := fun h' => by
  have := (hcond0_0 t).mp h'; have := lt_of_lt_of_eq t.isLt (show cfg0.N = 37 from N_0); omega
/-- A grid point other than the last does not take the last branch. -/
theorem mid_c1 {t : Fin cfg0.N} (h : t.val ≠ 36) : ¬cond0_1 (grid0.coords t) := fun h' => by
  have := (hcond0_1 t).mp h'; have := lt_of_lt_of_eq t.isLt (show cfg0.N = 37 from N_0); omega

/-- The carried buffers after the first point, -/
def stA (c : Dev nD) : St F where
  acc := View.canon (rA m c t0 c0_t0 c1_t0).2.2.1
  gt := View.canon (rA m c t0 c0_t0 c1_t0).2.2.2.1
  xat := View.canon (rA m c t0 c0_t0 c1_t0).2.2.2.2.1
  xb := View.canon (rA m c t0 c0_t0 c1_t0).2.2.2.2.2.1
/-- and after a middle point, from what they held before it. -/
def stB (c : Dev nD) (t : Fin cfg0.N) (h0 : t.val ≠ 0) (h1 : t.val ≠ 36) (s : St F) : St F where
  acc := View.canon (rB m c t (mid_c0 h0) (mid_c1 h1) s).2.1
  gt := View.canon (rB m c t (mid_c0 h0) (mid_c1 h1) s).2.2.1
  xat := s.xat
  xb := s.xb
/-- The carried buffers after point `n`, for `n` before the last. -/
def st (c : Dev nD) : ℕ → St F
  | 0 => stA m c
  | n + 1 => if h : n + 1 < 36 then stB m c ⟨n + 1, by rw [show cfg0.N = 37 from N_0]; omega⟩ (Nat.succ_ne_zero n) (by simp only; omega) (st c n) else st c n

/-- At an inner grid point the carried state is one inner step from the state before. -/
theorem st_mid (c : Dev nD) (t : Fin cfg0.N) (h0 : t.val ≠ 0) (h1 : t.val ≠ 36) : st m c t.val = stB m c t h0 h1 (st m c (t.val - 1)) := by
  obtain ⟨n, hn⟩ := t
  have : n < 37 := lt_of_lt_of_eq hn (show cfg0.N = 37 from N_0)
  cases n with
  | zero => exact absurd rfl h0
  | succ n => exact dif_pos (by simp only at h1; omega)

/-- The block of the `lora_b` gradient after point `t`. -/
def dbAt (c : Dev nD) (t : Fin cfg0.N) : Vec F S32x512 .f32 :=
  if h0 : t.val = 0 then View.canon (rA m c t0 c0_t0 c1_t0).1
  else if h1 : t.val = 36 then View.canon (rC m c t36 c0_t36 c1_t36 (st m c 35)).2.1
  else View.canon (rB m c t (mid_c0 h0) (mid_c1 h1) (st m c (t.val - 1))).1
/-- `xa`, stored at the first point. -/
def xaOut (c : Dev nD) : Vec F S1792x32 .bf16 := View.canon (rA m c t0 c0_t0 c1_t0).2.1
/-- The `lora_a` gradient and `g`, stored at the last point. -/
def daOut (c : Dev nD) : Vec F S32x3584 .f32 := View.canon (rC m c t36 c0_t36 c1_t36 (st m c 35)).1
def gOut (c : Dev nD) : Vec F S1792x32 .bf16 := View.canon (rC m c t36 c0_t36 c1_t36 (st m c 35)).2.2.1
/-- What the last point's transfers leave in the array of `dx`. -/
def dxOut (c : Dev nD) : HbBuf0 (F := F) c hbM0_1 := (rC m c t36 c0_t36 c1_t36 (st m c 35)).2.2.2.2.2.1

end Cert.Kernel.Hand

end
-- ==== Proof.Kernel.Frame.lean ====
/- The run of @main: the body obligation at every point, the launch, and the frame. -/
module

public import proofs.«01_k».proof.Proof.Kernel.Vals

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main is the host lines before the region, the region, and the host lines after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The contents of the buffers after the region: as before it, but for the array of `dx`. -/
def GV (c : Dev nD) (b : Ref sig .tc) : Buf (Elt F) ((c.tc : Thread nD τ).loc b) :=
  if h : main_v3_0 = b then h ▸ dxOut m c else V m c b
/-- After the region the array of `dx` holds what the last grid point transfers to it. -/
theorem GV_dx (c : Dev nD) : GV m c main_v3_0 = dxOut m c := dif_pos rfl

/-- The invariant before point `n`: at first the launch's, after the last point the launch's with the array of `dx` written, in
    between the carried buffers at what the point before left. -/
def PhiS (c : Dev nD) (n : ℕ) : sProp 𝕄 :=
  if n = 0 then Pipeline.ΦDRV osem0 spec0 HH RR (V m) (V m) c
  else if n = 37 then Pipeline.ΦDRV osem0 spec0 HH RR (V m) (GV m) c
  else iprop(iprop(owns (c : Thread nD τ) scM0_0 fullShare (st m c (n - 1)).acc ∗ owns (c : Thread nD τ) scM0_1 fullShare (st m c (n - 1)).gt ∗ owns (c : Thread nD τ) scM0_2 fullShare (st m c (n - 1)).xat ∗ owns (c : Thread nD τ) scM0_3 fullShare (st m c (n - 1)).xb)
    ∗ semVal ((c : Thread nD τ), SemLoc.dma 15) 0 ∗ hbPt0 c hbM0_0 (V m c main_v0) ∗ hbPt0 c hbM0_1 (V m c main_v3_0))

/-- Before the first grid point the invariant is the region's entry state. -/
theorem PhiS_0 (c : Dev nD) : PhiS m c 0 = Pipeline.ΦDRV osem0 spec0 HH RR (V m) (V m) c := by
  unfold PhiS; rw [if_pos rfl]
/-- After the last grid point the invariant is the region's exit state. -/
theorem PhiS_37 (c : Dev nD) : PhiS m c 37 = Pipeline.ΦDRV osem0 spec0 HH RR (V m) (GV m) c := by
  unfold PhiS; rw [if_neg (by decide), if_pos rfl]
/-- Between two grid points the invariant keeps the scratch buffers at the carried state. -/
theorem PhiS_mid (c : Dev nD) (n : ℕ) (h0 : n ≠ 0) (h1 : n ≠ 37) :
    PhiS m c n = iprop(iprop(owns (c : Thread nD τ) scM0_0 fullShare (st m c (n - 1)).acc ∗ owns (c : Thread nD τ) scM0_1 fullShare (st m c (n - 1)).gt ∗ owns (c : Thread nD τ) scM0_2 fullShare (st m c (n - 1)).xat ∗ owns (c : Thread nD τ) scM0_3 fullShare (st m c (n - 1)).xb)
    ∗ semVal ((c : Thread nD τ), SemLoc.dma 15) 0 ∗ hbPt0 c hbM0_0 (V m c main_v0) ∗ hbPt0 c hbM0_1 (V m c main_v3_0)) := by
  unfold PhiS; rw [if_neg h0, if_neg h1]

/-- The proof data of the pipeline on core `c`: its arrays as the region finds them, what the body leaves in each window's buffer,
    the invariant; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => daOut m c
    | ⟨7, _⟩ => dbAt m c t
    | ⟨8, _⟩ => gOut m c
    | ⟨9, _⟩ => xaOut m c
  Φ t := PhiS m c t.val
  q _ := fullShare
  owed _ := 0

/-- Each window's array is entered at what the host lines left in it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- The body leaves the window of read-only window 1 at its block. -/
theorem after0_1 (c : Dev nD) (t : Fin cfg0.N) : (dats m 0 c).after 1 t = iblk m c 1 t := by dsimp only [dats]
/-- The body leaves the window of read-only window 2 at its block. -/
theorem after0_2 (c : Dev nD) (t : Fin cfg0.N) : (dats m 0 c).after 2 t = iblk m c 2 t := by dsimp only [dats]
/-- The body leaves the window of read-only window 3 at its block. -/
theorem after0_3 (c : Dev nD) (t : Fin cfg0.N) : (dats m 0 c).after 3 t = iblk m c 3 t := by dsimp only [dats]
/-- The body leaves the window of read-only window 4 at its block. -/
theorem after0_4 (c : Dev nD) (t : Fin cfg0.N) : (dats m 0 c).after 4 t = iblk m c 4 t := by dsimp only [dats]
/-- The body leaves the window of read-only window 5 at its block. -/
theorem after0_5 (c : Dev nD) (t : Fin cfg0.N) : (dats m 0 c).after 5 t = iblk m c 5 t := by dsimp only [dats]
/-- The window of the transposed `d_lora_a` is left at its last value. -/
theorem after0_6 (c : Dev nD) (t : Fin cfg0.N) : (dats m 0 c).after 6 t = daOut m c := by dsimp only [dats]
/-- The window of `d_lora_b` is left at that grid point's block. -/
theorem after0_7 (c : Dev nD) (t : Fin cfg0.N) : (dats m 0 c).after 7 t = dbAt m c t := by dsimp only [dats]
/-- The window of `g` is left at its last value. -/
theorem after0_8 (c : Dev nD) (t : Fin cfg0.N) : (dats m 0 c).after 8 t = gOut m c := by dsimp only [dats]
/-- The window of `xa` is left at its last value. -/
theorem after0_9 (c : Dev nD) (t : Fin cfg0.N) : (dats m 0 c).after 9 t = xaOut m c := by dsimp only [dats]

/-- Each input's staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The body finds read-only window 1 at its block. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- The body finds read-only window 2 at its block. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- The body finds read-only window 3 at its block. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- The body finds read-only window 4 at its block. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- The body finds read-only window 5 at its block. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- The buffer of `xa` holds at the last point what the first point stored: every point in between is idle. -/
theorem before0_9_last (c : Dev nD) (d) : (dats m 0 c).before 9 t36 d = xaOut m c := by
  rw [(dats m 0 c).before_idle_run 9 (by decide +kernel) d 35 t36 (by decide) fun j h₁ h₂ => ⟨idle_9 j (mid_c0 (by simp only at h₁; omega)), by
      rw [flush_9]; simp only at h₂; simp only [decide_eq_false_iff_not]; omega⟩]
  rw [Dat.before_of_pos _ 9 _ (by simp) (by decide +kernel), if_neg (by rw [flush_9]; decide)]
  unfold Dat.left
  rw [show cfg0.idle 9 (cfg0.grid.coords ⟨(⟨t36.val - 35, by decide⟩ : Fin cfg0.N).val - 1, by decide⟩) = false from live_9 t0 c0_t0]
  exact after0_9 m c _

/-! ## The body at every point -/

/-- A live output is left at the proof data's contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
/-- So is one that is written back. -/
theorem leaves_flush (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

set_option maxHeartbeats 4000000 in
/-- The body at the first point: from what it is called with to what it returns. -/
theorem sound_A (c : Dev nD) :
    bodyPre m c t0 ⊢ wp frame (wpE (defs₀ (F := F)) Variants.none c none) Set.univ (bodyAt0 t0) (fun _ => bodyPost m c t0) := by
  unfold bodyPre bodyPost bodyAt0
  simp only [before0_0, before0_1, before0_2, before0_3, before0_4, before0_5]
  rw [leaves_live m c 0 t0 rfl, leaves_live m c 1 t0 rfl, leaves_live m c 2 t0 rfl, leaves_live m c 3 t0 rfl, leaves_live m c 4 t0 rfl, leaves_live m c 5 t0 rfl, leaves_live m c 7 t0 rfl]
  rw [Dat.leavesExact_idle (dats m 0 c) 6 t0 (idle_68 t0 c1_t0).1.1 (idle_68 t0 c1_t0).1.2, Dat.leavesExact_idle (dats m 0 c) 8 t0 (idle_68 t0 c1_t0).2.1 (idle_68 t0 c1_t0).2.2]
  rw [leaves_live m c 9 t0 (live_9 t0 c0_t0)]
  simp only [after0_0, after0_1, after0_2, after0_3, after0_4, after0_5, after0_6, after0_7, after0_8, after0_9]
  rw [show (dats m 0 c).Φ t0.castSucc = PhiS m c 0 from rfl, PhiS_0, Phi0_eq]
  rw [show (dats m 0 c).Φ t0.succ = PhiS m c 1 from rfl, PhiS_mid m c 1 (by decide) (by decide)]
  rw [show dbAt m c t0 = View.canon (rA m c t0 c0_t0 c1_t0).1 from dif_pos rfl, show st m c (1 - 1) = stA m c from rfl]
  unfold stA xaOut; dsimp only
  unfold Dat.owesAt Pipeline.owesWithin
  rw [show (dats m 0 c).owed t0.castSucc = 0 from rfl, show (dats m 0 c).owed t0.succ = 0 from rfl]
  iintro ⟨⟨⟨HS0, HS1, HS2, HS3⟩, Hq0, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rA m c t0 c0_t0 c1_t0).2.2.2.2.2.2 _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [Hq0]; · iexact Hq0
  isplitl [Hh0]; · iexact Hh0
  isplitl [Hh1]; · iexact Hh1
  isplitl [HW]; · iexact HW
  iintro ⟨H0, H1, H2, H3, H4, H5, H6, ⟨%e10, H7⟩, H8, ⟨%e12, H9⟩, ⟨%e13, HS0⟩, ⟨%e14, HS1⟩, ⟨%e15, HS2⟩, ⟨%e16, HS3⟩, Hq0, Hh0, Hh1, ⟨%W', HW'⟩⟩
  isplitl [HS0 HS1 HS2 HS3 Hq0 Hh0 Hh1]
  · isplitl [HS0 HS1 HS2 HS3]
    · isplitl [HS0]
      · unfold owns; iexists _; isplitr; swap; · iexact HS0
        ipureintro; exact View.read_writes_eq_canon _ _ _ (cover_A_LS0 m c t0 c0_t0 c1_t0)
      isplitl [HS1]
      · unfold owns; iexists _; isplitr; swap; · iexact HS1
        ipureintro; exact View.read_writes_eq_canon _ _ _ (cover_A_LS1 m c t0 c0_t0 c1_t0)
      isplitl [HS2]
      · unfold owns; iexists _; isplitr; swap; · iexact HS2
        ipureintro; exact View.read_writes_eq_canon _ _ _ (cover_A_LS2 m c t0 c0_t0 c1_t0)
      unfold owns; iexists _; isplitr; swap; · iexact HS3
      ipureintro; exact View.read_writes_eq_canon _ _ _ (cover_A_LS3 m c t0 c0_t0 c1_t0)
    isplitl [Hq0]; · iexact Hq0
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr; swap; · iexact H7
    ipureintro; exact View.read_writes_eq_canon _ _ _ (cover_A_LB m c t0 c0_t0 c1_t0)
  isplitl [H8]; · iexists _; iexact H8
  unfold owns; iexists _; isplitr; swap; · iexact H9
  ipureintro; exact View.read_writes_eq_canon _ _ _ (cover_A_LX m c t0 c0_t0 c1_t0)

set_option maxHeartbeats 4000000 in
/-- The body at a middle point: from what it is called with to what it returns. -/
theorem sound_B (c : Dev nD) (t : Fin cfg0.N) (h0 : t.val ≠ 0) (h1 : t.val ≠ 36) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [leaves_live m c 0 t rfl, leaves_live m c 1 t rfl, leaves_live m c 2 t rfl, leaves_live m c 3 t rfl, leaves_live m c 4 t rfl, leaves_live m c 5 t rfl, leaves_live m c 7 t rfl]
  rw [Dat.leavesExact_idle (dats m 0 c) 6 t (idle_68 t (mid_c1 h1)).1.1 (idle_68 t (mid_c1 h1)).1.2, Dat.leavesExact_idle (dats m 0 c) 8 t (idle_68 t (mid_c1 h1)).2.1 (idle_68 t (mid_c1 h1)).2.2]
  rw [Dat.leavesExact_idle (dats m 0 c) 9 t (idle_9 t (mid_c0 h0)) (by rw [flush_9]; have := lt_of_lt_of_eq t.isLt (show cfg0.N = 37 from N_0); simp only [decide_eq_false_iff_not]; omega)]
  simp only [after0_0, after0_1, after0_2, after0_3, after0_4, after0_5, after0_6, after0_7, after0_8, after0_9]
  have hN : t.val < 37 := lt_of_lt_of_eq t.isLt (show cfg0.N = 37 from N_0)
  rw [show (dats m 0 c).Φ t.castSucc = PhiS m c t.val from rfl, PhiS_mid m c t.val h0 (by omega)]
  rw [show (dats m 0 c).Φ t.succ = PhiS m c (t.val + 1) from rfl, PhiS_mid m c (t.val + 1) (by omega) (by omega), Nat.add_sub_cancel, st_mid m c t h0 h1]
  rw [show dbAt m c t = View.canon (rB m c t (mid_c0 h0) (mid_c1 h1) (st m c (t.val - 1))).1 from (dif_neg h0).trans (dif_neg h1)]
  unfold stB; dsimp only
  unfold Dat.owesAt Pipeline.owesWithin
  rw [show (dats m 0 c).owed t.castSucc = 0 from rfl, show (dats m 0 c).owed t.succ = 0 from rfl]
  iintro ⟨⟨⟨HS0, HS1, HS2, HS3⟩, Hq0, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rB m c t (mid_c0 h0) (mid_c1 h1) (st m c (t.val - 1))).2.2.2 _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  isplitl [HS2]; · iexact HS2
  isplitl [HS3]; · iexact HS3
  isplitl [Hq0]; · iexact Hq0
  isplitl [Hh0]; · iexact Hh0
  isplitl [Hh1]; · iexact Hh1
  isplitl [HW]; · iexact HW
  iintro ⟨H0, H1, H2, H3, H4, H5, H6, ⟨%e10, H7⟩, H8, H9, ⟨%e13, HS0⟩, ⟨%e14, HS1⟩, HS2, HS3, Hq0, Hh0, Hh1, ⟨%W', HW'⟩⟩
  isplitl [HS0 HS1 HS2 HS3 Hq0 Hh0 Hh1]
  · isplitl [HS0 HS1 HS2 HS3]
    · isplitl [HS0]
      · unfold owns; iexists _; isplitr; swap; · iexact HS0
        ipureintro; exact View.read_writes_eq_canon _ _ _ (cover_B_LS0 m c t (mid_c0 h0) (mid_c1 h1) _)
      isplitl [HS1]
      · unfold owns; iexists _; isplitr; swap; · iexact HS1
        ipureintro; exact View.read_writes_eq_canon _ _ _ (cover_B_LS1 m c t (mid_c0 h0) (mid_c1 h1) _)
      isplitl [HS2]; · iexact HS2
      iexact HS3
    isplitl [Hq0]; · iexact Hq0
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr; swap; · iexact H7
    ipureintro; exact View.read_writes_eq_canon _ _ _ (cover_B_LB m c t (mid_c0 h0) (mid_c1 h1) _)
  isplitl [H8]; · iexists _; iexact H8
  iexists _; iexact H9

set_option maxHeartbeats 4000000 in
/-- The body at the last point: from what it is called with to what it returns. -/
theorem sound_C (c : Dev nD) :
    bodyPre m c t36 ⊢ wp frame (wpE (defs₀ (F := F)) Variants.none c none) Set.univ (bodyAt0 t36) (fun _ => bodyPost m c t36) := by
  unfold bodyPre bodyPost bodyAt0
  simp only [before0_0, before0_1, before0_2, before0_3, before0_4, before0_5]
  rw [leaves_live m c 0 t36 rfl, leaves_live m c 1 t36 rfl, leaves_live m c 2 t36 rfl, leaves_live m c 3 t36 rfl, leaves_live m c 4 t36 rfl, leaves_live m c 5 t36 rfl, leaves_live m c 7 t36 rfl]
  rw [leaves_live m c 6 t36 (live_68 t36 c1_t36).1, leaves_live m c 8 t36 (live_68 t36 c1_t36).2]
  rw [leaves_flush m c 9 t36 (idle_9 t36 c0_t36) (by rw [flush_9]; rfl)]
  simp only [before0_9_last]
  simp only [after0_0, after0_1, after0_2, after0_3, after0_4, after0_5, after0_6, after0_7, after0_8, after0_9]
  rw [show (dats m 0 c).Φ t36.castSucc = PhiS m c 36 from rfl, PhiS_mid m c 36 (by decide) (by decide)]
  rw [show (dats m 0 c).Φ t36.succ = PhiS m c 37 from rfl, PhiS_37, Phi0_eq, GV_dx]
  rw [show dbAt m c t36 = View.canon (rC m c t36 c0_t36 c1_t36 (st m c 35)).2.1 from (dif_neg (by decide)).trans (dif_pos rfl), show 36 - 1 = 35 from rfl]
  unfold daOut gOut dxOut
  unfold Dat.owesAt Pipeline.owesWithin
  rw [show (dats m 0 c).owed t36.castSucc = 0 from rfl, show (dats m 0 c).owed t36.succ = 0 from rfl]
  iintro ⟨⟨⟨HS0, HS1, HS2, HS3⟩, Hq0, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rC m c t36 c0_t36 c1_t36 (st m c 35)).2.2.2.2.2.2 _ W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  isplitl [HS2]; · iexact HS2
  isplitl [HS3]; · iexact HS3
  isplitl [Hq0]; · iexact Hq0
  isplitl [Hh0]; · iexact Hh0
  isplitl [Hh1]; · iexact Hh1
  isplitl [HW]; · iexact HW
  iintro ⟨H0, H1, H2, H3, H4, H5, ⟨%e9, H6⟩, ⟨%e10, H7⟩, ⟨%e11, H8⟩, H9, ⟨%e13, HS0⟩, ⟨%e14, HS1⟩, HS2, ⟨%e16, HS3⟩, Hq0, Hh0, Hh1, ⟨%W', HW'⟩⟩
  isplitl [HS0 HS1 HS2 HS3 Hq0 Hh0 Hh1]
  · isplitl [HS0 HS1 HS2 HS3]
    · isplitl [HS0]
      · iexists _; unfold owns; iexists _; isplitr; swap; · iexact HS0
        ipureintro; rfl
      isplitl [HS1]
      · iexists _; unfold owns; iexists _; isplitr; swap; · iexact HS1
        ipureintro; rfl
      isplitl [HS2]; · iexists _; iexact HS2
      iexists e16; iexact HS3
    isplitl [Hq0]; · iexact Hq0
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact View.read_writes_eq_canon _ _ _ (cover_C_LA m c t36 c0_t36 c1_t36 _)
  isplitl [H7]
  · unfold owns; iexists _; isplitr; swap; · iexact H7
    ipureintro; exact View.read_writes_eq_canon _ _ _ (cover_C_LB m c t36 c0_t36 c1_t36 _)
  isplitl [H8]
  · unfold owns; iexists _; isplitr; swap; · iexact H8
    ipureintro; exact View.read_writes_eq_canon _ _ _ (cover_C_LG m c t36 c0_t36 c1_t36 _)
  iexact H9

/-- The body's triple at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = t0 := Fin.ext h0
    exact sound_A m c
  · by_cases h1 : t.val = 36
    · obtain rfl : t = t36 := Fin.ext h1
      exact sound_C m c
    · exact sound_B m c t h0 h1

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's entry state gives the invariant before the first grid point. -/
theorem hin (c : Dev nD) : Pipeline.ΦDRV osem0 spec0 HH RR (V m) (V m) c ⊢ (dats m 0 c).Φ 0 := by
  rw [show (dats m 0 c).Φ 0 = PhiS m c 0 from rfl, PhiS_0]

/-- The invariant after the last grid point gives the region's exit state. -/
theorem hout (c : Dev nD) : (dats m 0 c).Φ (Fin.last cfg0.N) ⊢ Pipeline.ΦDRV osem0 spec0 HH RR (V m) (GV m) c := by
  rw [show (dats m 0 c).Φ (Fin.last cfg0.N) = PhiS m c 37 from rfl, PhiS_37]

/-! ## The run and the frame -/

/-- What every final state holds: each window's array at what the library computes from the proof data, every other buffer at what
    the host lines after the region leave it, and every semaphore counter at zero. -/
def RunPost (r : PUnit × MemSt nD τ sig (Elt F)) : Prop :=
  (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after ([hostOps1].flatten) (Pipeline.withArrays spec0 c (Pipeline.withR (V0 m c) RR c (GV m c)) fun w => (dats m 0 c).arrAt w cfg0.N) (Proc.devRef .tc b))
    ∧ r.2.sem = fun _ => 0

set_option backward.isDefEq.respectTransparency.types false in
set_option maxHeartbeats 800000 in
/-- Every fair run of @main ends in such a state. -/
theorem run_main : θ_run defs (onTc (τ := τ) (main (F := F))) (s₀ m ρ) (RunPost m) :=
  Pipeline.θ_run_frame_dmaR_aroundV (Q' := RunPost m) cfgs (dats m) (0 : Fin 1) launch0 osem0 defs₀ Variants.none ownSemFacts0 HH RR HH_sub RR_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := GV m) (hmain := hmainD m Variants.none) (hA := A_eq m) (hin := hin m) (hout := hout m) (hQ' := fun _ h => h)

/-- A buffer that no host line writes, that is no window's array and is not written by transfers, ends as the region found it. -/
theorem rest_keeps (c : Dev nD) (b : Ref sig .tc) (h : ∀ op ∈ (hostOps1 : List (HloOp τ sig (Elt F))), Proc.devRef .tc b ∉ op.writes)
    (ha : ∀ w, Pipeline.arrRef spec0 w ≠ b) (hR : b ∉ RR) :
    StableHlo.after ([hostOps1].flatten) (Pipeline.withArrays spec0 c (Pipeline.withR (V0 m c) RR c (GV m c)) fun w => (dats m 0 c).arrAt w cfg0.N) (Proc.devRef .tc b) = V m c b := by
  rw [StableHlo.after_of_forall_not_mem (b := Proc.devRef .tc b) _ _ (by rw [List.flatten_cons, List.flatten_nil, List.append_nil]; exact h),
    Pipeline.withArrays_of_ne _ c _ _ b ha, Pipeline.withR_of_not_mem _ RR c _ b hR]

/-- The frame: the argument arrays end unchanged, and every semaphore counter at zero. -/
theorem frame_args {r : PUnit × MemSt nD τ sig (Elt F)} (h : RunPost m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hw : ∀ b ∈ ([main_arg0, main_arg1] : List (Ref sig .tc)), ∀ op ∈ (hostOps1 : List (HloOp τ sig (Elt F))), Proc.devRef .tc b ∉ op.writes := by
    intro b hb op hop
    simp only [hostOps1, List.mem_cons, List.mem_nil_iff, or_false] at hop hb
    rcases hop with rfl | rfl | rfl | rfl <;> rcases hb with rfl | rfl <;>
      simp only [StableHlo.unary_writes, StableHlo.reshape_writes, Finset.mem_singleton] <;> exact StableHlo.devRef_ne_of_ne (by decide)
  have h := h.1 c
  exact ⟨(h.2 main_arg0 (Pipeline.mem_restRefs_of main_arg0 (by decide) (by decide))).trans ((rest_keeps m c main_arg0 (hw _ (by decide)) (by decide) (by decide)).trans (V_main_arg0 m c)),
    (h.2 main_arg1 (Pipeline.mem_restRefs_of main_arg1 (by decide) (by decide))).trans ((rest_keeps m c main_arg1 (hw _ (by decide)) (by decide) (by decide)).trans (V_main_arg1 m c)),
    (h.1 1).trans (((dats m 0 c).arrAt_in 1 rfl _).trans ((A_eq m c 1).trans (V_main_arg2 m c))),
    (h.1 2).trans (((dats m 0 c).arrAt_in 2 rfl _).trans ((A_eq m c 2).trans (V_main_arg3 m c))),
    (h.1 3).trans (((dats m 0 c).arrAt_in 3 rfl _).trans ((A_eq m c 3).trans (V_main_arg4 m c))),
    (h.1 5).trans (((dats m 0 c).arrAt_in 5 rfl _).trans ((A_eq m c 5).trans (V_main_arg5 m c)))⟩

end Cert.Kernel.Hand

end
-- ==== Proof.KernelIdeal.Base.lean ====
/- What the runs of the kernel's body are stated over: its branch conditions, its idle outputs, its buffers. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixV
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## The branch conditions over the points -/

/-- The condition of the first-point branch of the body. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, e0]
    word_cmp
   : ∀ t : Fin grid0.N, cond0_0 (grid0.coords t) ↔ t.val % 37 = 0)
/-- The condition of the last-point branch of the body. -/
abbrev cond0_1 (i : grid0.Coords) : Prop := k0_cond2 i = 1#1
/-- It holds at point 36 only. -/
theorem hcond0_1 : ∀ t : Fin cfg0.N, cond0_1 (grid0.coords t) ↔ t.val % 37 = 36 :=
  (fun t => by
    have ht : t.val < 37 := Nat.lt_of_lt_of_eq t.isLt N_0
    have e0 : (grid0.coords t 0).val = t.val / 1 % 37 := Pipeline.Grid.coords_val t 0 (by decide) rfl
    simp only [cond0_1, k0_cond2, e0]
    word_cmp
   : ∀ t : Fin grid0.N, cond0_1 (grid0.coords t) ↔ t.val % 37 = 36)

/-! ## Where the outputs are idle, and where they are written back -/

/-- Outputs 6 and 8 (the `lora_a` gradient and `g`) are idle before the last point and not written back there. -/
theorem idle_68 : ∀ t : Fin cfg0.N, ¬cond0_1 (grid0.coords t) →
    (cfg0.idle 6 (grid0.coords t) = true ∧ (cfg0.win 6).flush t = false) ∧ (cfg0.idle 8 (grid0.coords t) = true ∧ (cfg0.win 8).flush t = false) := by
  decide +kernel
/-- At the last point they are live. -/
theorem live_68 : ∀ t : Fin cfg0.N, cond0_1 (grid0.coords t) → cfg0.idle 6 (grid0.coords t) = false ∧ cfg0.idle 8 (grid0.coords t) = false := by
  decide +kernel
/-- Output 9 (`xa`) is live at the first point. -/
theorem live_9 : ∀ t : Fin cfg0.N, cond0_0 (grid0.coords t) → cfg0.idle 9 (grid0.coords t) = false := by
  decide +kernel
/-- Output 9 is idle after the first point. -/
theorem idle_9 : ∀ t : Fin cfg0.N, ¬cond0_0 (grid0.coords t) → cfg0.idle 9 (grid0.coords t) = true := by
  decide +kernel
/-- Output 9 is written back at the last point only. -/
theorem flush_9 : ∀ t : Fin cfg0.N, (cfg0.win 9).flush t = decide (t.val % 37 = 36) := by
  decide +kernel

/-! ## The buffers of the body -/

/-- The scratch buffers: the accumulator of `dx`, the accumulator of `g` transposed, `xa` transposed, the transfer buffer. -/
abbrev scM0_0 : Memref sig .tc .vmem S1792x3584 .f32 := Memref.whole cc0_scratch0
abbrev scM0_1 : Memref sig .tc .vmem S32x1792 .f32 := Memref.whole cc0_scratch1
abbrev scM0_2 : Memref sig .tc .vmem S32x1792 .bf16 := Memref.whole cc0_scratch2
abbrev scM0_3 : Memref sig .tc .vmem S1792x512 .bf16 := Memref.whole cc0_scratch3
/-- The array of `x` and the array of `dx`, which the body transfers from and to itself. -/
abbrev hbM0_0 : Memref sig .tc .hbm S1792x3584 .bf16 := Memref.whole main_v0
abbrev hbM0_1 : Memref sig .tc .hbm S1792x3584 .bf16 := Memref.whole main_v3_0
/-- The contents of a memref's buffer on core `c`, and the buffer held whole. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphore. -/
abbrev osem0 : Fin 1 → SemLoc sig := fun j => (![SemLoc.dma 15] : Fin 1 → SemLoc sig) j
/-- The kernel's own semaphore is apart from those of the windows. -/
theorem ownSemFacts0 : Pipeline.OwnSemFacts spec0 osem0 := by decide
/-- The kernel's own semaphores are the one of its transfers. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0) := by
  rw [Pipeline.ownSems0_eq_of_list c osem0 [0] (by decide) (by decide)]; rfl
/-- The array that the body reads by transfers, and the one that it writes by transfers. -/
def HH : Finset (Ref sig .tc) := {main_v0}
def RR : Finset (Ref sig .tc) := {main_v3_0}
/-- The array the body reads by transfers is staged by no window. -/
theorem HH_sub : HH ⊆ Pipeline.restRefs sig spec0 := by decide
/-- The array the body writes by transfers is staged by no window and is not one that it reads by transfers. -/
theorem RR_sub : RR ⊆ Pipeline.restRefs sig spec0 \ HH := by decide

/-- The launch's invariant, conjunct by conjunct: the scratch buffers at some contents, the semaphore at zero, the array of `x`
    at its contents and the array of `dx` at given contents. -/
theorem Phi0_eq (V G : (c : Dev nD) → (b : Ref sig .tc) → Buf (Elt F) ((c.tc : Thread nD τ).loc b)) (c : Dev nD) :
    (Pipeline.ΦDRV osem0 spec0 HH RR V G c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
          ∗ semVal ((c : Thread nD τ), SemLoc.dma 15) 0 ∗ hbPt0 c hbM0_0 (V c main_v0) ∗ hbPt0 c hbM0_1 (G c main_v3_0)) := by
  unfold Pipeline.ΦDRV HH RR
  rw [scopedRest0_eq, ownSems00_eq, BI.bigSep_eq_bigSepL_of_eq [main_v0] (by decide) (by decide),
    BI.bigSep_eq_bigSepL_of_eq [main_v3_0] (by decide) (by decide)]
  simp only [scM0_0, scM0_1, scM0_2, scM0_3, owns_whole]; rfl

end Cert.KernelIdeal.Hand

end
-- ==== Proof.KernelIdeal.RunA.lean ====
/- The run of the kernel's body at the first point. -/
module

public import proofs.«01_k».proof.Proof.KernelIdeal.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (c : Dev nD) (i : grid0.Coords)
variable (arg2 : Memref sig .tc .vmem S1792x512 .bf16) (harg2 : arg2.IsWhole)
variable (arg3 : Memref sig .tc .vmem S1792x512 .i8) (harg3 : arg3.IsWhole)
variable (arg4 : Memref sig .tc .vmem S28x512 .bf16) (harg4 : arg4.IsWhole)
variable (arg5 : Memref sig .tc .vmem S3584x32 .bf16) (harg5 : arg5.IsWhole)
variable (arg6 : Memref sig .tc .vmem S32x3584 .bf16) (harg6 : arg6.IsWhole)
variable (arg7 : Memref sig .tc .vmem S32x512 .bf16) (harg7 : arg7.IsWhole)
variable (arg9 : Memref sig .tc .vmem S32x3584 .f32) (harg9 : arg9.IsWhole)
variable (arg10 : Memref sig .tc .vmem S32x512 .f32) (harg10 : arg10.IsWhole)
variable (arg11 : Memref sig .tc .vmem S1792x32 .bf16) (harg11 : arg11.IsWhole)
variable (arg12 : Memref sig .tc .vmem S1792x32 .bf16) (harg12 : arg12.IsWhole)
variable (arg13 : Memref sig .tc .vmem S1792x3584 .f32) (harg13 : arg13.IsWhole)
variable (arg14 : Memref sig .tc .vmem S32x1792 .f32) (harg14 : arg14.IsWhole)
variable (arg15 : Memref sig .tc .vmem S32x1792 .bf16) (harg15 : arg15.IsWhole)
variable (arg16 : Memref sig .tc .vmem S1792x512 .bf16) (harg16 : arg16.IsWhole)

set_option maxHeartbeats 1200000 in
/-- The body at the first point: what its stores leave in the `lora_b` gradient block (`LB`), in `xa` (`LX`) and in the
    carried scratch buffers, as lists of pieces (last first), with the proof that the body runs to the continuation holding
    exactly those. The accumulators of the other two outputs are handed back as found. -/
noncomputable def kernelRun0_A (hc0 : cond0_0 i) (hc1 : ¬cond0_1 i)
    (x0 : Vec F S1792x512 .bf16) (x1 : Vec F S1792x512 .i8) (x2 : Vec F S28x512 .bf16) (x3 : Vec F S3584x32 .bf16)
    (x4 : Vec F S32x3584 .bf16) (x5 : Vec F S32x512 .bf16) (fh0 : HbBuf0 (F := F) c hbM0_0) :
    Σ' (LB : List (View.Piece (Elt F) S32x512 .f32)), Σ' (LX : List (View.Piece (Elt F) S1792x32 .bf16)), Σ' (LS0 : List (View.Piece (Elt F) S1792x3584 .f32)), Σ' (LS1 : List (View.Piece (Elt F) S32x1792 .f32)), Σ' (LS2 : List (View.Piece (Elt F) S32x1792 .bf16)), { LS3 : List (View.Piece (Elt F) S1792x512 .bf16) //
      ∀ (xi6 : Vec F S32x3584 .f32) (xi8 : Vec F S1792x32 .bf16) (fh1 : HbBuf0 (F := F) c hbM0_1) (W : Waits sig Unit) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg9 fullShare xi6
            ∗ (∃ d, owns (c : Thread nD τ) arg10 fullShare d)
            ∗ owns (c : Thread nD τ) arg11 fullShare xi8
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (∃ d, owns (c : Thread nD τ) arg16 fullShare d)
            ∗ semVal ((c : Thread nD τ), SemLoc.dma 15) 0
            ∗ hbPt0 c hbM0_0 fh0
            ∗ hbPt0 c hbM0_1 fh1
            ∗ owes (c : Thread nD τ) 0 W
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg9 fullShare xi6
            ∗ (∃ f, arg10.view.loc (c : Thread nD τ) ↦[arg10.view.set]{fullShare} arg10.view.writes (Elt F) f LB)
            ∗ owns (c : Thread nD τ) arg11 fullShare xi8
            ∗ (∃ f, arg12.view.loc (c : Thread nD τ) ↦[arg12.view.set]{fullShare} arg12.view.writes (Elt F) f LX)
            ∗ (∃ f, arg13.view.loc (c : Thread nD τ) ↦[arg13.view.set]{fullShare} arg13.view.writes (Elt F) f LS0)
            ∗ (∃ f, arg14.view.loc (c : Thread nD τ) ↦[arg14.view.set]{fullShare} arg14.view.writes (Elt F) f LS1)
            ∗ (∃ f, arg15.view.loc (c : Thread nD τ) ↦[arg15.view.set]{fullShare} arg15.view.writes (Elt F) f LS2)
            ∗ (∃ f, arg16.view.loc (c : Thread nD τ) ↦[arg16.view.set]{fullShare} arg16.view.writes (Elt F) f LS3)
            ∗ semVal ((c : Thread nD τ), SemLoc.dma 15) 0
            ∗ hbPt0 c hbM0_0 fh0
            ∗ hbPt0 c hbM0_1 fh1
            ∗ (∃ W', owes (c : Thread nD τ) 0 W')) -∗ K ⟨⟩))
          ⊢ wp frame (wpE (defs₀ (F := F)) Variants.none c none) Set.univ (cc0_qlora_bwd i (Memref.whole main_v0) (Memref.isWhole_whole _) arg2 harg2 arg3 harg3 arg4 harg4 arg5 harg5 arg6 harg6 arg7 harg7
            (Memref.whole main_v3_0) (Memref.isWhole_whole _) arg9 harg9 arg10 harg10 arg11 harg11 arg12 harg12 arg13 harg13 arg14 harg14 arg15 harg15 arg16 harg16 cc0_scratch4) K } := by
  refine ⟨?_, ?_, ?_, ?_, ?_, ?_, fun xi6 xi8 fh1 W K => ?run⟩
  case run =>
    simp only [cc0_qlora_bwd_eq_skeleton]; unfold cc0_qlora_bwd_skel
    simp only [k0_part8_eq_skeleton, k0_part1_eq_skeleton, k0_part2_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H6⟩, ⟨%d10, %f10, -, H7⟩, ⟨%f11, %hf11, H8⟩, ⟨%d12, %f12, -, H9⟩, ⟨%d13, %f13, -, HS0⟩, ⟨%d14, %f14, -, HS1⟩, ⟨%d15, %f15, -, HS2⟩, ⟨%d16, %f16, -, HS3⟩, Hq0, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf9; obtain rfl := harg11.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hh0]; · iexact Hh0
    isplitl [Hh1]; · iexact Hh1
    iexists _; iexact HW

end Cert.KernelIdeal.Hand

end
-- ==== Proof.KernelIdeal.RunB.lean ====
/- The run of the kernel's body at a middle point. -/
module

public import proofs.«01_k».proof.Proof.KernelIdeal.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (c : Dev nD) (i : grid0.Coords)
variable (arg2 : Memref sig .tc .vmem S1792x512 .bf16) (harg2 : arg2.IsWhole)
variable (arg3 : Memref sig .tc .vmem S1792x512 .i8) (harg3 : arg3.IsWhole)
variable (arg4 : Memref sig .tc .vmem S28x512 .bf16) (harg4 : arg4.IsWhole)
variable (arg5 : Memref sig .tc .vmem S3584x32 .bf16) (harg5 : arg5.IsWhole)
variable (arg6 : Memref sig .tc .vmem S32x3584 .bf16) (harg6 : arg6.IsWhole)
variable (arg7 : Memref sig .tc .vmem S32x512 .bf16) (harg7 : arg7.IsWhole)
variable (arg9 : Memref sig .tc .vmem S32x3584 .f32) (harg9 : arg9.IsWhole)
variable (arg10 : Memref sig .tc .vmem S32x512 .f32) (harg10 : arg10.IsWhole)
variable (arg11 : Memref sig .tc .vmem S1792x32 .bf16) (harg11 : arg11.IsWhole)
variable (arg12 : Memref sig .tc .vmem S1792x32 .bf16) (harg12 : arg12.IsWhole)
variable (arg13 : Memref sig .tc .vmem S1792x3584 .f32) (harg13 : arg13.IsWhole)
variable (arg14 : Memref sig .tc .vmem S32x1792 .f32) (harg14 : arg14.IsWhole)
variable (arg15 : Memref sig .tc .vmem S32x1792 .bf16) (harg15 : arg15.IsWhole)
variable (arg16 : Memref sig .tc .vmem S1792x512 .bf16) (harg16 : arg16.IsWhole)

set_option maxHeartbeats 1200000 in
/-- The body at a middle point: the pieces stored into the `lora_b` gradient block (`LB`), into the accumulator of `dx` (`LS0`)
    and into the accumulator of `g` (`LS1`), with the proof that the body runs to the continuation holding exactly those.
    Every other output is handed back as found. -/
noncomputable def kernelRun0_B (hc0 : ¬cond0_0 i) (hc1 : ¬cond0_1 i)
    (x0 : Vec F S1792x512 .bf16) (x1 : Vec F S1792x512 .i8) (x2 : Vec F S28x512 .bf16) (x3 : Vec F S3584x32 .bf16)
    (x4 : Vec F S32x3584 .bf16) (x5 : Vec F S32x512 .bf16) (xs0 : Vec F S1792x3584 .f32) (xs1 : Vec F S32x1792 .f32) (xs2 : Vec F S32x1792 .bf16) (xs3 : Vec F S1792x512 .bf16) (fh0 : HbBuf0 (F := F) c hbM0_0) :
    Σ' (LB : List (View.Piece (Elt F) S32x512 .f32)), Σ' (LS0 : List (View.Piece (Elt F) S1792x3584 .f32)), { LS1 : List (View.Piece (Elt F) S32x1792 .f32) //
      ∀ (xi6 : Vec F S32x3584 .f32) (xi8 : Vec F S1792x32 .bf16) (xi9 : Vec F S1792x32 .bf16) (fh1 : HbBuf0 (F := F) c hbM0_1) (W : Waits sig Unit) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg9 fullShare xi6
            ∗ (∃ d, owns (c : Thread nD τ) arg10 fullShare d)
            ∗ owns (c : Thread nD τ) arg11 fullShare xi8
            ∗ owns (c : Thread nD τ) arg12 fullShare xi9
            ∗ owns (c : Thread nD τ) arg13 fullShare xs0
            ∗ owns (c : Thread nD τ) arg14 fullShare xs1
            ∗ owns (c : Thread nD τ) arg15 fullShare xs2
            ∗ owns (c : Thread nD τ) arg16 fullShare xs3
            ∗ semVal ((c : Thread nD τ), SemLoc.dma 15) 0
            ∗ hbPt0 c hbM0_0 fh0
            ∗ hbPt0 c hbM0_1 fh1
            ∗ owes (c : Thread nD τ) 0 W
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg9 fullShare xi6
            ∗ (∃ f, arg10.view.loc (c : Thread nD τ) ↦[arg10.view.set]{fullShare} arg10.view.writes (Elt F) f LB)
            ∗ owns (c : Thread nD τ) arg11 fullShare xi8
            ∗ owns (c : Thread nD τ) arg12 fullShare xi9
            ∗ (∃ f, arg13.view.loc (c : Thread nD τ) ↦[arg13.view.set]{fullShare} arg13.view.writes (Elt F) f LS0)
            ∗ (∃ f, arg14.view.loc (c : Thread nD τ) ↦[arg14.view.set]{fullShare} arg14.view.writes (Elt F) f LS1)
            ∗ owns (c : Thread nD τ) arg15 fullShare xs2
            ∗ owns (c : Thread nD τ) arg16 fullShare xs3
            ∗ semVal ((c : Thread nD τ), SemLoc.dma 15) 0
            ∗ hbPt0 c hbM0_0 fh0
            ∗ hbPt0 c hbM0_1 fh1
            ∗ (∃ W', owes (c : Thread nD τ) 0 W')) -∗ K ⟨⟩))
          ⊢ wp frame (wpE (defs₀ (F := F)) Variants.none c none) Set.univ (cc0_qlora_bwd i (Memref.whole main_v0) (Memref.isWhole_whole _) arg2 harg2 arg3 harg3 arg4 harg4 arg5 harg5 arg6 harg6 arg7 harg7
            (Memref.whole main_v3_0) (Memref.isWhole_whole _) arg9 harg9 arg10 harg10 arg11 harg11 arg12 harg12 arg13 harg13 arg14 harg14 arg15 harg15 arg16 harg16 cc0_scratch4) K } := by
  refine ⟨?_, ?_, ?_, fun xi6 xi8 xi9 fh1 W K => ?run⟩
  case run =>
    simp only [cc0_qlora_bwd_eq_skeleton]; unfold cc0_qlora_bwd_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H6⟩, ⟨%d10, %f10, -, H7⟩, ⟨%f11, %hf11, H8⟩, ⟨%f12, %hf12, H9⟩, ⟨%f13, %hf13, HS0⟩, ⟨%f14, %hf14, HS1⟩, ⟨%f15, %hf15, HS2⟩, ⟨%f16, %hf16, HS3⟩, Hq0, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg9.read_unread _
      iexact H6
    isplitl [H7]; · iexists _; iexact H7
    isplitl [H8]
    · iexists _; isplitr; · ipureintro; exact harg11.read_unread _
      iexact H8
    isplitl [H9]
    · iexists _; isplitr; · ipureintro; exact harg12.read_unread _
      iexact H9
    isplitl [HS0]; · iexists _; iexact HS0
    isplitl [HS1]; · iexists _; iexact HS1
    isplitl [HS2]
    · iexists _; isplitr; · ipureintro; exact harg15.read_unread _
      iexact HS2
    isplitl [HS3]
    · iexists _; isplitr; · ipureintro; exact harg16.read_unread _
      iexact HS3
    isplitl [Hq0]; · iexact Hq0
    isplitl [Hh0]; · iexact Hh0
    isplitl [Hh1]; · iexact Hh1
    iexists _; iexact HW

end Cert.KernelIdeal.Hand

end
-- ==== Proof.KernelIdeal.RunC.lean ====
/- The run of the kernel's body at the last point. -/
module

public import proofs.«01_k».proof.Proof.KernelIdeal.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (c : Dev nD) (i : grid0.Coords)
variable (arg2 : Memref sig .tc .vmem S1792x512 .bf16) (harg2 : arg2.IsWhole)
variable (arg3 : Memref sig .tc .vmem S1792x512 .i8) (harg3 : arg3.IsWhole)
variable (arg4 : Memref sig .tc .vmem S28x512 .bf16) (harg4 : arg4.IsWhole)
variable (arg5 : Memref sig .tc .vmem S3584x32 .bf16) (harg5 : arg5.IsWhole)
variable (arg6 : Memref sig .tc .vmem S32x3584 .bf16) (harg6 : arg6.IsWhole)
variable (arg7 : Memref sig .tc .vmem S32x512 .bf16) (harg7 : arg7.IsWhole)
variable (arg9 : Memref sig .tc .vmem S32x3584 .f32) (harg9 : arg9.IsWhole)
variable (arg10 : Memref sig .tc .vmem S32x512 .f32) (harg10 : arg10.IsWhole)
variable (arg11 : Memref sig .tc .vmem S1792x32 .bf16) (harg11 : arg11.IsWhole)
variable (arg12 : Memref sig .tc .vmem S1792x32 .bf16) (harg12 : arg12.IsWhole)
variable (arg13 : Memref sig .tc .vmem S1792x3584 .f32) (harg13 : arg13.IsWhole)
variable (arg14 : Memref sig .tc .vmem S32x1792 .f32) (harg14 : arg14.IsWhole)
variable (arg15 : Memref sig .tc .vmem S32x1792 .bf16) (harg15 : arg15.IsWhole)
variable (arg16 : Memref sig .tc .vmem S1792x512 .bf16) (harg16 : arg16.IsWhole)

set_option maxHeartbeats 1200000 in
/-- The body at the last point: the pieces stored into the `lora_a` gradient (`LA`), the `lora_b` gradient block (`LB`), `g` (`LG`) and
    the two accumulators, and what its transfers leave in the array of `dx` (`GD`), with the proof that the body runs to the
    continuation holding exactly those. `xa` is handed back as found. -/
noncomputable def kernelRun0_C (hc0 : ¬cond0_0 i) (hc1 : cond0_1 i)
    (x0 : Vec F S1792x512 .bf16) (x1 : Vec F S1792x512 .i8) (x2 : Vec F S28x512 .bf16) (x3 : Vec F S3584x32 .bf16)
    (x4 : Vec F S32x3584 .bf16) (x5 : Vec F S32x512 .bf16) (xs0 : Vec F S1792x3584 .f32) (xs1 : Vec F S32x1792 .f32) (xs2 : Vec F S32x1792 .bf16) (xs3 : Vec F S1792x512 .bf16) (fh0 : HbBuf0 (F := F) c hbM0_0) (fh1 : HbBuf0 (F := F) c hbM0_1) :
    Σ' (LA : List (View.Piece (Elt F) S32x3584 .f32)), Σ' (LB : List (View.Piece (Elt F) S32x512 .f32)), Σ' (LG : List (View.Piece (Elt F) S1792x32 .bf16)), Σ' (LS0 : List (View.Piece (Elt F) S1792x3584 .f32)), Σ' (LS1 : List (View.Piece (Elt F) S32x1792 .f32)), { GD : HbBuf0 (F := F) c hbM0_1 //
      ∀ (xi9 : Vec F S1792x32 .bf16) (W : Waits sig Unit) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg9 fullShare d)
            ∗ (∃ d, owns (c : Thread nD τ) arg10 fullShare d)
            ∗ (∃ d, owns (c : Thread nD τ) arg11 fullShare d)
            ∗ owns (c : Thread nD τ) arg12 fullShare xi9
            ∗ owns (c : Thread nD τ) arg13 fullShare xs0
            ∗ owns (c : Thread nD τ) arg14 fullShare xs1
            ∗ owns (c : Thread nD τ) arg15 fullShare xs2
            ∗ owns (c : Thread nD τ) arg16 fullShare xs3
            ∗ semVal ((c : Thread nD τ), SemLoc.dma 15) 0
            ∗ hbPt0 c hbM0_0 fh0
            ∗ hbPt0 c hbM0_1 fh1
            ∗ owes (c : Thread nD τ) 0 W
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ f, arg9.view.loc (c : Thread nD τ) ↦[arg9.view.set]{fullShare} arg9.view.writes (Elt F) f LA)
            ∗ (∃ f, arg10.view.loc (c : Thread nD τ) ↦[arg10.view.set]{fullShare} arg10.view.writes (Elt F) f LB)
            ∗ (∃ f, arg11.view.loc (c : Thread nD τ) ↦[arg11.view.set]{fullShare} arg11.view.writes (Elt F) f LG)
            ∗ owns (c : Thread nD τ) arg12 fullShare xi9
            ∗ (∃ f, arg13.view.loc (c : Thread nD τ) ↦[arg13.view.set]{fullShare} arg13.view.writes (Elt F) f LS0)
            ∗ (∃ f, arg14.view.loc (c : Thread nD τ) ↦[arg14.view.set]{fullShare} arg14.view.writes (Elt F) f LS1)
            ∗ owns (c : Thread nD τ) arg15 fullShare xs2
            ∗ (∃ d, owns (c : Thread nD τ) arg16 fullShare d)
            ∗ semVal ((c : Thread nD τ), SemLoc.dma 15) 0
            ∗ hbPt0 c hbM0_0 fh0
            ∗ hbPt0 c hbM0_1 GD
            ∗ (∃ W', owes (c : Thread nD τ) 0 W')) -∗ K ⟨⟩))
          ⊢ wp frame (wpE (defs₀ (F := F)) Variants.none c none) Set.univ (cc0_qlora_bwd i (Memref.whole main_v0) (Memref.isWhole_whole _) arg2 harg2 arg3 harg3 arg4 harg4 arg5 harg5 arg6 harg6 arg7 harg7
            (Memref.whole main_v3_0) (Memref.isWhole_whole _) arg9 harg9 arg10 harg10 arg11 harg11 arg12 harg12 arg13 harg13 arg14 harg14 arg15 harg15 arg16 harg16 cc0_scratch4) K } := by
  refine ⟨?_, ?_, ?_, ?_, ?_, ?_, fun xi9 W K => ?run⟩
  case run =>
    simp only [cc0_qlora_bwd_eq_skeleton]; unfold cc0_qlora_bwd_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H6⟩, ⟨%d10, %f10, -, H7⟩, ⟨%d11, %f11, -, H8⟩, ⟨%f12, %hf12, H9⟩, ⟨%f13, %hf13, HS0⟩, ⟨%f14, %hf14, HS1⟩, ⟨%f15, %hf15, HS2⟩, ⟨%f16, %hf16, HS3⟩, Hq0, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]
    · iexists _; isplitr; · ipureintro; exact harg12.read_unread _
      iexact H9
    isplitl [HS0]; · iexists _; iexact HS0
    isplitl [HS1]; · iexists _; iexact HS1
    isplitl [HS2]
    · iexists _; isplitr; · ipureintro; exact harg15.read_unread _
      iexact HS2
    isplitl [HS3]
    · iexists _, _; isplitr; swap; · iexact HS3
      ipureintro; rfl
    isplitl [Hq0]; · iexact Hq0
    isplitl [Hh0]; · iexact Hh0
    isplitl [Hh1]; · iexact Hh1
    iexists _; iexact HW

end Cert.KernelIdeal.Hand

end
-- ==== Proof.KernelIdeal.Vals.lean ====
/- What the body leaves in each buffer at each point of the grid, as a recursion over the points. -/
module

public import proofs.«01_k».proof.Proof.KernelIdeal.RunA
public import proofs.«01_k».proof.Proof.KernelIdeal.RunB
public import proofs.«01_k».proof.Proof.KernelIdeal.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The staging memrefs of the windows at point `t`, and that each is a whole buffer. -/
abbrev ms0_0 (t : Fin cfg0.N) : Memref sig .tc .vmem S1792x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S28x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x32 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x3584 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x3584 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1792x32 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1792x32 .bf16 := win0_9.stage (cfg0.slots t 9)
abbrev hs0_9 (t : Fin cfg0.N) : (ms0_9 t).IsWhole := hstage0_9 ((cfg0.slots t 9).cast nbuf0_9)

/-- What the body carries from point to point: the accumulator of `dx`, the accumulator of `g` transposed, `xa` transposed, and
    the transfer buffer. -/
structure St (F : FTy → Type) where
  acc : Vec F S1792x3584 .f32
  gt : Vec F S32x1792 .f32
  xat : Vec F S32x1792 .bf16
  xb : Vec F S1792x512 .bf16

/-- The body's run at point `t` of the pipeline, where the first-point branch is taken, -/
noncomputable def rA (c : Dev nD) (t : Fin cfg0.N) (hc0 : cond0_0 (grid0.coords t)) (hc1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) (V m c main_v0)
/-- where neither branch is, -/
noncomputable def rB (c : Dev nD) (t : Fin cfg0.N) (hc0 : ¬cond0_0 (grid0.coords t)) (hc1 : ¬cond0_1 (grid0.coords t)) (s : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) s.acc s.gt s.xat s.xb (V m c main_v0)
/-- and where the last-point branch is. -/
noncomputable def rC (c : Dev nD) (t : Fin cfg0.N) (hc0 : ¬cond0_0 (grid0.coords t)) (hc1 : cond0_1 (grid0.coords t)) (s : St F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) (iblk m c 5 t) s.acc s.gt s.xat s.xb (V m c main_v0) (V m c main_v3_0)

/-! ## The pieces of each list cover their buffer -/

/-- The first grid point writes every index of the window of `d_lora_b`. -/
theorem cover_A_LB (c : Dev nD) (t : Fin cfg0.N) (hc0 : cond0_0 (grid0.coords t)) (hc1 : ¬cond0_1 (grid0.coords t)) (y) : ∃ pc ∈ (rA m c t hc0 hc1).1, y ∈ pc.1.set :=
  View.cover_of_tiledL _ S32x512.size (by sl_kernel_rfl) y
/-- The first grid point writes every index of the window of `xa`. -/
theorem cover_A_LX (c : Dev nD) (t : Fin cfg0.N) (hc0 : cond0_0 (grid0.coords t)) (hc1 : ¬cond0_1 (grid0.coords t)) (y) : ∃ pc ∈ (rA m c t hc0 hc1).2.1, y ∈ pc.1.set :=
  View.cover_of_tiledL _ S1792x32.size (by sl_kernel_rfl) y
/-- The first grid point writes every index of the accumulator of `dx`. -/
theorem cover_A_LS0 (c : Dev nD) (t : Fin cfg0.N) (hc0 : cond0_0 (grid0.coords t)) (hc1 : ¬cond0_1 (grid0.coords t)) (y) : ∃ pc ∈ (rA m c t hc0 hc1).2.2.1, y ∈ pc.1.set :=
  View.cover_of_wholeMem _ (by sl_whole_mem) y
/-- The first grid point writes every index of the accumulator of `g`. -/
theorem cover_A_LS1 (c : Dev nD) (t : Fin cfg0.N) (hc0 : cond0_0 (grid0.coords t)) (hc1 : ¬cond0_1 (grid0.coords t)) (y) : ∃ pc ∈ (rA m c t hc0 hc1).2.2.2.1, y ∈ pc.1.set :=
  View.cover_of_tiledL _ S32x1792.size (by sl_kernel_rfl) y
/-- The first grid point writes every index of the transposed `xa`. -/
theorem cover_A_LS2 (c : Dev nD) (t : Fin cfg0.N) (hc0 : cond0_0 (grid0.coords t)) (hc1 : ¬cond0_1 (grid0.coords t)) (y) : ∃ pc ∈ (rA m c t hc0 hc1).2.2.2.2.1, y ∈ pc.1.set :=
  View.cover_of_tiledL _ S32x1792.size (by sl_kernel_rfl) y
/-- The first grid point writes every index of the buffer of the pieces of `x`. -/
theorem cover_A_LS3 (c : Dev nD) (t : Fin cfg0.N) (hc0 : cond0_0 (grid0.coords t)) (hc1 : ¬cond0_1 (grid0.coords t)) (y) : ∃ pc ∈ (rA m c t hc0 hc1).2.2.2.2.2.1, y ∈ pc.1.set :=
  View.cover_of_tiledL _ S1792x512.size (by sl_kernel_rfl) y
/-- An inner grid point writes every index of the window of `d_lora_b`. -/
theorem cover_B_LB (c : Dev nD) (t : Fin cfg0.N) (hc0 : ¬cond0_0 (grid0.coords t)) (hc1 : ¬cond0_1 (grid0.coords t)) (s : St F) (y) : ∃ pc ∈ (rB m c t hc0 hc1 s).1, y ∈ pc.1.set :=
  View.cover_of_tiledL _ S32x512.size (by sl_kernel_rfl) y
/-- An inner grid point writes every index of the accumulator of `dx`. -/
theorem cover_B_LS0 (c : Dev nD) (t : Fin cfg0.N) (hc0 : ¬cond0_0 (grid0.coords t)) (hc1 : ¬cond0_1 (grid0.coords t)) (s : St F) (y) : ∃ pc ∈ (rB m c t hc0 hc1 s).2.1, y ∈ pc.1.set :=
  View.cover_of_tiledL _ ![1792, 256] (by sl_kernel_rfl) y
/-- An inner grid point writes every index of the accumulator of `g`. -/
theorem cover_B_LS1 (c : Dev nD) (t : Fin cfg0.N) (hc0 : ¬cond0_0 (grid0.coords t)) (hc1 : ¬cond0_1 (grid0.coords t)) (s : St F) (y) : ∃ pc ∈ (rB m c t hc0 hc1 s).2.2.1, y ∈ pc.1.set :=
  View.cover_of_tiledL _ S32x1792.size (by sl_kernel_rfl) y
/-- The last grid point writes every index of the window of the transposed `d_lora_a`. -/
theorem cover_C_LA (c : Dev nD) (t : Fin cfg0.N) (hc0 : ¬cond0_0 (grid0.coords t)) (hc1 : cond0_1 (grid0.coords t)) (s : St F) (y) : ∃ pc ∈ (rC m c t hc0 hc1 s).1, y ∈ pc.1.set :=
  View.cover_of_tiledL _ ![32, 512] (by sl_kernel_rfl) y
/-- The last grid point writes every index of the window of `d_lora_b`. -/
theorem cover_C_LB (c : Dev nD) (t : Fin cfg0.N) (hc0 : ¬cond0_0 (grid0.coords t)) (hc1 : cond0_1 (grid0.coords t)) (s : St F) (y) : ∃ pc ∈ (rC m c t hc0 hc1 s).2.1, y ∈ pc.1.set :=
  View.cover_of_tiledL _ S32x512.size (by sl_kernel_rfl) y
/-- The last grid point writes every index of the window of `g`. -/
theorem cover_C_LG (c : Dev nD) (t : Fin cfg0.N) (hc0 : ¬cond0_0 (grid0.coords t)) (hc1 : cond0_1 (grid0.coords t)) (s : St F) (y) : ∃ pc ∈ (rC m c t hc0 hc1 s).2.2.1, y ∈ pc.1.set :=
  View.cover_of_tiledL _ S1792x32.size (by sl_kernel_rfl) y

/-! ## What is held after each point -/

/-- The first point, and the last. -/
abbrev t0 : Fin cfg0.N := ⟨0, by rw [show cfg0.N = 37 from N_0]; omega⟩
abbrev t36 : Fin cfg0.N := ⟨36, by rw [show cfg0.N = 37 from N_0]; omega⟩
/-- The first grid point takes the first branch. -/
theorem c0_t0 : cond0_0 (grid0.coords t0) := (hcond0_0 t0).mpr rfl
/-- The first grid point does not take the last branch. -/
theorem c1_t0 : ¬cond0_1 (grid0.coords t0) := fun h => absurd ((hcond0_1 t0).mp h) (by decide)
/-- The last grid point does not take the first branch. -/
theorem c0_t36 : ¬cond0_0 (grid0.coords t36) := fun h => absurd ((hcond0_0 t36).mp h) (by decide)
/-- The last grid point takes the last branch. -/
theorem c1_t36 : cond0_1 (grid0.coords t36) := (hcond0_1 t36).mpr rfl
/-- A grid point other than the first does not take the first branch. -/
theorem mid_c0 {t : Fin cfg0.N} (h : t.val ≠ 0) : ¬cond0_0 (grid0.coords t) := fun h' => by
  have := (hcond0_0 t).mp h'; have := lt_of_lt_of_eq t.isLt (show cfg0.N = 37 from N_0); omega
/-- A grid point other than the last does not take the last branch. -/
theorem mid_c1 {t : Fin cfg0.N} (h : t.val ≠ 36) : ¬cond0_1 (grid0.coords t) := fun h' => by
  have := (hcond0_1 t).mp h'; have := lt_of_lt_of_eq t.isLt (show cfg0.N = 37 from N_0); omega

/-- The carried buffers after the first point, -/
def stA (c : Dev nD) : St F where
  acc := View.canon (rA m c t0 c0_t0 c1_t0).2.2.1
  gt := View.canon (rA m c t0 c0_t0 c1_t0).2.2.2.1
  xat := View.canon (rA m c t0 c0_t0 c1_t0).2.2.2.2.1
  xb := View.canon (rA m c t0 c0_t0 c1_t0).2.2.2.2.2.1
/-- and after a middle point, from what they held before it. -/
def stB (c : Dev nD) (t : Fin cfg0.N) (h0 : t.val ≠ 0) (h1 : t.val ≠ 36) (s : St F) : St F where
  acc := View.canon (rB m c t (mid_c0 h0) (mid_c1 h1) s).2.1
  gt := View.canon (rB m c t (mid_c0 h0) (mid_c1 h1) s).2.2.1
  xat := s.xat
  xb := s.xb
/-- The carried buffers after point `n`, for `n` before the last. -/
def st (c : Dev nD) : ℕ → St F
  | 0 => stA m c
  | n + 1 => if h : n + 1 < 36 then stB m c ⟨n + 1, by rw [show cfg0.N = 37 from N_0]; omega⟩ (Nat.succ_ne_zero n) (by simp only; omega) (st c n) else st c n

/-- At an inner grid point the carried state is one inner step from the state before. -/
theorem st_mid (c : Dev nD) (t : Fin cfg0.N) (h0 : t.val ≠ 0) (h1 : t.val ≠ 36) : st m c t.val = stB m c t h0 h1 (st m c (t.val - 1)) := by
  obtain ⟨n, hn⟩ := t
  have : n < 37 := lt_of_lt_of_eq hn (show cfg0.N = 37 from N_0)
  cases n with
  | zero => exact absurd rfl h0
  | succ n => exact dif_pos (by simp only at h1; omega)

/-- The block of the `lora_b` gradient after point `t`. -/
def dbAt (c : Dev nD) (t : Fin cfg0.N) : Vec F S32x512 .f32 :=
  if h0 : t.val = 0 then View.canon (rA m c t0 c0_t0 c1_t0).1
  else if h1 : t.val = 36 then View.canon (rC m c t36 c0_t36 c1_t36 (st m c 35)).2.1
  else View.canon (rB m c t (mid_c0 h0) (mid_c1 h1) (st m c (t.val - 1))).1
/-- `xa`, stored at the first point. -/
def xaOut (c : Dev nD) : Vec F S1792x32 .bf16 := View.canon (rA m c t0 c0_t0 c1_t0).2.1
/-- The `lora_a` gradient and `g`, stored at the last point. -/
def daOut (c : Dev nD) : Vec F S32x3584 .f32 := View.canon (rC m c t36 c0_t36 c1_t36 (st m c 35)).1
def gOut (c : Dev nD) : Vec F S1792x32 .bf16 := View.canon (rC m c t36 c0_t36 c1_t36 (st m c 35)).2.2.1
/-- What the last point's transfers leave in the array of `dx`. -/
def dxOut (c : Dev nD) : HbBuf0 (F := F) c hbM0_1 := (rC m c t36 c0_t36 c1_t36 (st m c 35)).2.2.2.2.2.1

end Cert.KernelIdeal.Hand

end
-- ==== Proof.KernelIdeal.Frame.lean ====
/- The run of @main: the body obligation at every point, the launch, and the frame. -/
module

public import proofs.«01_k».proof.Proof.KernelIdeal.Vals

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main is the host lines before the region, the region, and the host lines after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The contents of the buffers after the region: as before it, but for the array of `dx`. -/
def GV (c : Dev nD) (b : Ref sig .tc) : Buf (Elt F) ((c.tc : Thread nD τ).loc b) :=
  if h : main_v3_0 = b then h ▸ dxOut m c else V m c b
/-- After the region the array of `dx` holds what the last grid point transfers to it. -/
theorem GV_dx (c : Dev nD) : GV m c main_v3_0 = dxOut m c := dif_pos rfl

/-- The invariant before point `n`: at first the launch's, after the last point the launch's with the array of `dx` written, in
    between the carried buffers at what the point before left. -/
def PhiS (c : Dev nD) (n : ℕ) : sProp 𝕄 :=
  if n = 0 then Pipeline.ΦDRV osem0 spec0 HH RR (V m) (V m) c
  else if n = 37 then Pipeline.ΦDRV osem0 spec0 HH RR (V m) (GV m) c
  else iprop(iprop(owns (c : Thread nD τ) scM0_0 fullShare (st m c (n - 1)).acc ∗ owns (c : Thread nD τ) scM0_1 fullShare (st m c (n - 1)).gt ∗ owns (c : Thread nD τ) scM0_2 fullShare (st m c (n - 1)).xat ∗ owns (c : Thread nD τ) scM0_3 fullShare (st m c (n - 1)).xb)
    ∗ semVal ((c : Thread nD τ), SemLoc.dma 15) 0 ∗ hbPt0 c hbM0_0 (V m c main_v0) ∗ hbPt0 c hbM0_1 (V m c main_v3_0))

/-- Before the first grid point the invariant is the region's entry state. -/
theorem PhiS_0 (c : Dev nD) : PhiS m c 0 = Pipeline.ΦDRV osem0 spec0 HH RR (V m) (V m) c := by
  unfold PhiS; rw [if_pos rfl]
/-- After the last grid point the invariant is the region's exit state. -/
theorem PhiS_37 (c : Dev nD) : PhiS m c 37 = Pipeline.ΦDRV osem0 spec0 HH RR (V m) (GV m) c := by
  unfold PhiS; rw [if_neg (by decide), if_pos rfl]
/-- Between two grid points the invariant keeps the scratch buffers at the carried state. -/
theorem PhiS_mid (c : Dev nD) (n : ℕ) (h0 : n ≠ 0) (h1 : n ≠ 37) :
    PhiS m c n = iprop(iprop(owns (c : Thread nD τ) scM0_0 fullShare (st m c (n - 1)).acc ∗ owns (c : Thread nD τ) scM0_1 fullShare (st m c (n - 1)).gt ∗ owns (c : Thread nD τ) scM0_2 fullShare (st m c (n - 1)).xat ∗ owns (c : Thread nD τ) scM0_3 fullShare (st m c (n - 1)).xb)
    ∗ semVal ((c : Thread nD τ), SemLoc.dma 15) 0 ∗ hbPt0 c hbM0_0 (V m c main_v0) ∗ hbPt0 c hbM0_1 (V m c main_v3_0)) := by
  unfold PhiS; rw [if_neg h0, if_neg h1]

/-- The proof data of the pipeline on core `c`: its arrays as the region finds them, what the body leaves in each window's buffer,
    the invariant; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => daOut m c
    | ⟨7, _⟩ => dbAt m c t
    | ⟨8, _⟩ => gOut m c
    | ⟨9, _⟩ => xaOut m c
  Φ t := PhiS m c t.val
  q _ := fullShare
  owed _ := 0

/-- Each window's array is entered at what the host lines left in it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- The body leaves the window of read-only window 1 at its block. -/
theorem after0_1 (c : Dev nD) (t : Fin cfg0.N) : (dats m 0 c).after 1 t = iblk m c 1 t := by dsimp only [dats]
/-- The body leaves the window of read-only window 2 at its block. -/
theorem after0_2 (c : Dev nD) (t : Fin cfg0.N) : (dats m 0 c).after 2 t = iblk m c 2 t := by dsimp only [dats]
/-- The body leaves the window of read-only window 3 at its block. -/
theorem after0_3 (c : Dev nD) (t : Fin cfg0.N) : (dats m 0 c).after 3 t = iblk m c 3 t := by dsimp only [dats]
/-- The body leaves the window of read-only window 4 at its block. -/
theorem after0_4 (c : Dev nD) (t : Fin cfg0.N) : (dats m 0 c).after 4 t = iblk m c 4 t := by dsimp only [dats]
/-- The body leaves the window of read-only window 5 at its block. -/
theorem after0_5 (c : Dev nD) (t : Fin cfg0.N) : (dats m 0 c).after 5 t = iblk m c 5 t := by dsimp only [dats]
/-- The window of the transposed `d_lora_a` is left at its last value. -/
theorem after0_6 (c : Dev nD) (t : Fin cfg0.N) : (dats m 0 c).after 6 t = daOut m c := by dsimp only [dats]
/-- The window of `d_lora_b` is left at that grid point's block. -/
theorem after0_7 (c : Dev nD) (t : Fin cfg0.N) : (dats m 0 c).after 7 t = dbAt m c t := by dsimp only [dats]
/-- The window of `g` is left at its last value. -/
theorem after0_8 (c : Dev nD) (t : Fin cfg0.N) : (dats m 0 c).after 8 t = gOut m c := by dsimp only [dats]
/-- The window of `xa` is left at its last value. -/
theorem after0_9 (c : Dev nD) (t : Fin cfg0.N) : (dats m 0 c).after 9 t = xaOut m c := by dsimp only [dats]

/-- Each input's staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The body finds read-only window 1 at its block. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- The body finds read-only window 2 at its block. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- The body finds read-only window 3 at its block. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- The body finds read-only window 4 at its block. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- The body finds read-only window 5 at its block. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- The buffer of `xa` holds at the last point what the first point stored: every point in between is idle. -/
theorem before0_9_last (c : Dev nD) (d) : (dats m 0 c).before 9 t36 d = xaOut m c := by
  rw [(dats m 0 c).before_idle_run 9 (by decide +kernel) d 35 t36 (by decide) fun j h₁ h₂ => ⟨idle_9 j (mid_c0 (by simp only at h₁; omega)), by
      rw [flush_9]; simp only at h₂; simp only [decide_eq_false_iff_not]; omega⟩]
  rw [Dat.before_of_pos _ 9 _ (by simp) (by decide +kernel), if_neg (by rw [flush_9]; decide)]
  unfold Dat.left
  rw [show cfg0.idle 9 (cfg0.grid.coords ⟨(⟨t36.val - 35, by decide⟩ : Fin cfg0.N).val - 1, by decide⟩) = false from live_9 t0 c0_t0]
  exact after0_9 m c _

/-! ## The body at every point -/

/-- A live output is left at the proof data's contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
/-- So is one that is written back. -/
theorem leaves_flush (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

set_option maxHeartbeats 4000000 in
/-- The body at the first point: from what it is called with to what it returns. -/
theorem sound_A (c : Dev nD) :
    bodyPre m c t0 ⊢ wp frame (wpE (defs₀ (F := F)) Variants.none c none) Set.univ (bodyAt0 t0) (fun _ => bodyPost m c t0) := by
  unfold bodyPre bodyPost bodyAt0
  simp only [before0_0, before0_1, before0_2, before0_3, before0_4, before0_5]
  rw [leaves_live m c 0 t0 rfl, leaves_live m c 1 t0 rfl, leaves_live m c 2 t0 rfl, leaves_live m c 3 t0 rfl, leaves_live m c 4 t0 rfl, leaves_live m c 5 t0 rfl, leaves_live m c 7 t0 rfl]
  rw [Dat.leavesExact_idle (dats m 0 c) 6 t0 (idle_68 t0 c1_t0).1.1 (idle_68 t0 c1_t0).1.2, Dat.leavesExact_idle (dats m 0 c) 8 t0 (idle_68 t0 c1_t0).2.1 (idle_68 t0 c1_t0).2.2]
  rw [leaves_live m c 9 t0 (live_9 t0 c0_t0)]
  simp only [after0_0, after0_1, after0_2, after0_3, after0_4, after0_5, after0_6, after0_7, after0_8, after0_9]
  rw [show (dats m 0 c).Φ t0.castSucc = PhiS m c 0 from rfl, PhiS_0, Phi0_eq]
  rw [show (dats m 0 c).Φ t0.succ = PhiS m c 1 from rfl, PhiS_mid m c 1 (by decide) (by decide)]
  rw [show dbAt m c t0 = View.canon (rA m c t0 c0_t0 c1_t0).1 from dif_pos rfl, show st m c (1 - 1) = stA m c from rfl]
  unfold stA xaOut; dsimp only
  unfold Dat.owesAt Pipeline.owesWithin
  rw [show (dats m 0 c).owed t0.castSucc = 0 from rfl, show (dats m 0 c).owed t0.succ = 0 from rfl]
  iintro ⟨⟨⟨HS0, HS1, HS2, HS3⟩, Hq0, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rA m c t0 c0_t0 c1_t0).2.2.2.2.2.2 _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [Hq0]; · iexact Hq0
  isplitl [Hh0]; · iexact Hh0
  isplitl [Hh1]; · iexact Hh1
  isplitl [HW]; · iexact HW
  iintro ⟨H0, H1, H2, H3, H4, H5, H6, ⟨%e10, H7⟩, H8, ⟨%e12, H9⟩, ⟨%e13, HS0⟩, ⟨%e14, HS1⟩, ⟨%e15, HS2⟩, ⟨%e16, HS3⟩, Hq0, Hh0, Hh1, ⟨%W', HW'⟩⟩
  isplitl [HS0 HS1 HS2 HS3 Hq0 Hh0 Hh1]
  · isplitl [HS0 HS1 HS2 HS3]
    · isplitl [HS0]
      · unfold owns; iexists _; isplitr; swap; · iexact HS0
        ipureintro; exact View.read_writes_eq_canon _ _ _ (cover_A_LS0 m c t0 c0_t0 c1_t0)
      isplitl [HS1]
      · unfold owns; iexists _; isplitr; swap; · iexact HS1
        ipureintro; exact View.read_writes_eq_canon _ _ _ (cover_A_LS1 m c t0 c0_t0 c1_t0)
      isplitl [HS2]
      · unfold owns; iexists _; isplitr; swap; · iexact HS2
        ipureintro; exact View.read_writes_eq_canon _ _ _ (cover_A_LS2 m c t0 c0_t0 c1_t0)
      unfold owns; iexists _; isplitr; swap; · iexact HS3
      ipureintro; exact View.read_writes_eq_canon _ _ _ (cover_A_LS3 m c t0 c0_t0 c1_t0)
    isplitl [Hq0]; · iexact Hq0
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr; swap; · iexact H7
    ipureintro; exact View.read_writes_eq_canon _ _ _ (cover_A_LB m c t0 c0_t0 c1_t0)
  isplitl [H8]; · iexists _; iexact H8
  unfold owns; iexists _; isplitr; swap; · iexact H9
  ipureintro; exact View.read_writes_eq_canon _ _ _ (cover_A_LX m c t0 c0_t0 c1_t0)

set_option maxHeartbeats 4000000 in
/-- The body at a middle point: from what it is called with to what it returns. -/
theorem sound_B (c : Dev nD) (t : Fin cfg0.N) (h0 : t.val ≠ 0) (h1 : t.val ≠ 36) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [leaves_live m c 0 t rfl, leaves_live m c 1 t rfl, leaves_live m c 2 t rfl, leaves_live m c 3 t rfl, leaves_live m c 4 t rfl, leaves_live m c 5 t rfl, leaves_live m c 7 t rfl]
  rw [Dat.leavesExact_idle (dats m 0 c) 6 t (idle_68 t (mid_c1 h1)).1.1 (idle_68 t (mid_c1 h1)).1.2, Dat.leavesExact_idle (dats m 0 c) 8 t (idle_68 t (mid_c1 h1)).2.1 (idle_68 t (mid_c1 h1)).2.2]
  rw [Dat.leavesExact_idle (dats m 0 c) 9 t (idle_9 t (mid_c0 h0)) (by rw [flush_9]; have := lt_of_lt_of_eq t.isLt (show cfg0.N = 37 from N_0); simp only [decide_eq_false_iff_not]; omega)]
  simp only [after0_0, after0_1, after0_2, after0_3, after0_4, after0_5, after0_6, after0_7, after0_8, after0_9]
  have hN : t.val < 37 := lt_of_lt_of_eq t.isLt (show cfg0.N = 37 from N_0)
  rw [show (dats m 0 c).Φ t.castSucc = PhiS m c t.val from rfl, PhiS_mid m c t.val h0 (by omega)]
  rw [show (dats m 0 c).Φ t.succ = PhiS m c (t.val + 1) from rfl, PhiS_mid m c (t.val + 1) (by omega) (by omega), Nat.add_sub_cancel, st_mid m c t h0 h1]
  rw [show dbAt m c t = View.canon (rB m c t (mid_c0 h0) (mid_c1 h1) (st m c (t.val - 1))).1 from (dif_neg h0).trans (dif_neg h1)]
  unfold stB; dsimp only
  unfold Dat.owesAt Pipeline.owesWithin
  rw [show (dats m 0 c).owed t.castSucc = 0 from rfl, show (dats m 0 c).owed t.succ = 0 from rfl]
  iintro ⟨⟨⟨HS0, HS1, HS2, HS3⟩, Hq0, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rB m c t (mid_c0 h0) (mid_c1 h1) (st m c (t.val - 1))).2.2.2 _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  isplitl [HS2]; · iexact HS2
  isplitl [HS3]; · iexact HS3
  isplitl [Hq0]; · iexact Hq0
  isplitl [Hh0]; · iexact Hh0
  isplitl [Hh1]; · iexact Hh1
  isplitl [HW]; · iexact HW
  iintro ⟨H0, H1, H2, H3, H4, H5, H6, ⟨%e10, H7⟩, H8, H9, ⟨%e13, HS0⟩, ⟨%e14, HS1⟩, HS2, HS3, Hq0, Hh0, Hh1, ⟨%W', HW'⟩⟩
  isplitl [HS0 HS1 HS2 HS3 Hq0 Hh0 Hh1]
  · isplitl [HS0 HS1 HS2 HS3]
    · isplitl [HS0]
      · unfold owns; iexists _; isplitr; swap; · iexact HS0
        ipureintro; exact View.read_writes_eq_canon _ _ _ (cover_B_LS0 m c t (mid_c0 h0) (mid_c1 h1) _)
      isplitl [HS1]
      · unfold owns; iexists _; isplitr; swap; · iexact HS1
        ipureintro; exact View.read_writes_eq_canon _ _ _ (cover_B_LS1 m c t (mid_c0 h0) (mid_c1 h1) _)
      isplitl [HS2]; · iexact HS2
      iexact HS3
    isplitl [Hq0]; · iexact Hq0
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr; swap; · iexact H7
    ipureintro; exact View.read_writes_eq_canon _ _ _ (cover_B_LB m c t (mid_c0 h0) (mid_c1 h1) _)
  isplitl [H8]; · iexists _; iexact H8
  iexists _; iexact H9

set_option maxHeartbeats 4000000 in
/-- The body at the last point: from what it is called with to what it returns. -/
theorem sound_C (c : Dev nD) :
    bodyPre m c t36 ⊢ wp frame (wpE (defs₀ (F := F)) Variants.none c none) Set.univ (bodyAt0 t36) (fun _ => bodyPost m c t36) := by
  unfold bodyPre bodyPost bodyAt0
  simp only [before0_0, before0_1, before0_2, before0_3, before0_4, before0_5]
  rw [leaves_live m c 0 t36 rfl, leaves_live m c 1 t36 rfl, leaves_live m c 2 t36 rfl, leaves_live m c 3 t36 rfl, leaves_live m c 4 t36 rfl, leaves_live m c 5 t36 rfl, leaves_live m c 7 t36 rfl]
  rw [leaves_live m c 6 t36 (live_68 t36 c1_t36).1, leaves_live m c 8 t36 (live_68 t36 c1_t36).2]
  rw [leaves_flush m c 9 t36 (idle_9 t36 c0_t36) (by rw [flush_9]; rfl)]
  simp only [before0_9_last]
  simp only [after0_0, after0_1, after0_2, after0_3, after0_4, after0_5, after0_6, after0_7, after0_8, after0_9]
  rw [show (dats m 0 c).Φ t36.castSucc = PhiS m c 36 from rfl, PhiS_mid m c 36 (by decide) (by decide)]
  rw [show (dats m 0 c).Φ t36.succ = PhiS m c 37 from rfl, PhiS_37, Phi0_eq, GV_dx]
  rw [show dbAt m c t36 = View.canon (rC m c t36 c0_t36 c1_t36 (st m c 35)).2.1 from (dif_neg (by decide)).trans (dif_pos rfl), show 36 - 1 = 35 from rfl]
  unfold daOut gOut dxOut
  unfold Dat.owesAt Pipeline.owesWithin
  rw [show (dats m 0 c).owed t36.castSucc = 0 from rfl, show (dats m 0 c).owed t36.succ = 0 from rfl]
  iintro ⟨⟨⟨HS0, HS1, HS2, HS3⟩, Hq0, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rC m c t36 c0_t36 c1_t36 (st m c 35)).2.2.2.2.2.2 _ W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  isplitl [HS2]; · iexact HS2
  isplitl [HS3]; · iexact HS3
  isplitl [Hq0]; · iexact Hq0
  isplitl [Hh0]; · iexact Hh0
  isplitl [Hh1]; · iexact Hh1
  isplitl [HW]; · iexact HW
  iintro ⟨H0, H1, H2, H3, H4, H5, ⟨%e9, H6⟩, ⟨%e10, H7⟩, ⟨%e11, H8⟩, H9, ⟨%e13, HS0⟩, ⟨%e14, HS1⟩, HS2, ⟨%e16, HS3⟩, Hq0, Hh0, Hh1, ⟨%W', HW'⟩⟩
  isplitl [HS0 HS1 HS2 HS3 Hq0 Hh0 Hh1]
  · isplitl [HS0 HS1 HS2 HS3]
    · isplitl [HS0]
      · iexists _; unfold owns; iexists _; isplitr; swap; · iexact HS0
        ipureintro; rfl
      isplitl [HS1]
      · iexists _; unfold owns; iexists _; isplitr; swap; · iexact HS1
        ipureintro; rfl
      isplitl [HS2]; · iexists _; iexact HS2
      iexists e16; iexact HS3
    isplitl [Hq0]; · iexact Hq0
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact View.read_writes_eq_canon _ _ _ (cover_C_LA m c t36 c0_t36 c1_t36 _)
  isplitl [H7]
  · unfold owns; iexists _; isplitr; swap; · iexact H7
    ipureintro; exact View.read_writes_eq_canon _ _ _ (cover_C_LB m c t36 c0_t36 c1_t36 _)
  isplitl [H8]
  · unfold owns; iexists _; isplitr; swap; · iexact H8
    ipureintro; exact View.read_writes_eq_canon _ _ _ (cover_C_LG m c t36 c0_t36 c1_t36 _)
  iexact H9

/-- The body's triple at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · obtain rfl : t = t0 := Fin.ext h0
    exact sound_A m c
  · by_cases h1 : t.val = 36
    · obtain rfl : t = t36 := Fin.ext h1
      exact sound_C m c
    · exact sound_B m c t h0 h1

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's entry state gives the invariant before the first grid point. -/
theorem hin (c : Dev nD) : Pipeline.ΦDRV osem0 spec0 HH RR (V m) (V m) c ⊢ (dats m 0 c).Φ 0 := by
  rw [show (dats m 0 c).Φ 0 = PhiS m c 0 from rfl, PhiS_0]

/-- The invariant after the last grid point gives the region's exit state. -/
theorem hout (c : Dev nD) : (dats m 0 c).Φ (Fin.last cfg0.N) ⊢ Pipeline.ΦDRV osem0 spec0 HH RR (V m) (GV m) c := by
  rw [show (dats m 0 c).Φ (Fin.last cfg0.N) = PhiS m c 37 from rfl, PhiS_37]

/-! ## The run and the frame -/

/-- What every final state holds: each window's array at what the library computes from the proof data, every other buffer at what
    the host lines after the region leave it, and every semaphore counter at zero. -/
def RunPost (r : PUnit × MemSt nD τ sig (Elt F)) : Prop :=
  (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after ([hostOps1].flatten) (Pipeline.withArrays spec0 c (Pipeline.withR (V0 m c) RR c (GV m c)) fun w => (dats m 0 c).arrAt w cfg0.N) (Proc.devRef .tc b))
    ∧ r.2.sem = fun _ => 0

set_option backward.isDefEq.respectTransparency.types false in
set_option maxHeartbeats 800000 in
/-- Every fair run of @main ends in such a state. -/
theorem run_main : θ_run defs (onTc (τ := τ) (main (F := F))) (s₀ m ρ) (RunPost m) :=
  Pipeline.θ_run_frame_dmaR_aroundV (Q' := RunPost m) cfgs (dats m) (0 : Fin 1) launch0 osem0 defs₀ Variants.none ownSemFacts0 HH RR HH_sub RR_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := GV m) (hmain := hmainD m Variants.none) (hA := A_eq m) (hin := hin m) (hout := hout m) (hQ' := fun _ h => h)

/-- A buffer that no host line writes, that is no window's array and is not written by transfers, ends as the region found it. -/
theorem rest_keeps (c : Dev nD) (b : Ref sig .tc) (h : ∀ op ∈ (hostOps1 : List (HloOp τ sig (Elt F))), Proc.devRef .tc b ∉ op.writes)
    (ha : ∀ w, Pipeline.arrRef spec0 w ≠ b) (hR : b ∉ RR) :
    StableHlo.after ([hostOps1].flatten) (Pipeline.withArrays spec0 c (Pipeline.withR (V0 m c) RR c (GV m c)) fun w => (dats m 0 c).arrAt w cfg0.N) (Proc.devRef .tc b) = V m c b := by
  rw [StableHlo.after_of_forall_not_mem (b := Proc.devRef .tc b) _ _ (by rw [List.flatten_cons, List.flatten_nil, List.append_nil]; exact h),
    Pipeline.withArrays_of_ne _ c _ _ b ha, Pipeline.withR_of_not_mem _ RR c _ b hR]

/-- The frame: the argument arrays end unchanged, and every semaphore counter at zero. -/
theorem frame_args {r : PUnit × MemSt nD τ sig (Elt F)} (h : RunPost m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hw : ∀ b ∈ ([main_arg0, main_arg1] : List (Ref sig .tc)), ∀ op ∈ (hostOps1 : List (HloOp τ sig (Elt F))), Proc.devRef .tc b ∉ op.writes := by
    intro b hb op hop
    simp only [hostOps1, List.mem_cons, List.mem_nil_iff, or_false] at hop hb
    rcases hop with rfl | rfl | rfl | rfl <;> rcases hb with rfl | rfl <;>
      simp only [StableHlo.unary_writes, StableHlo.reshape_writes, Finset.mem_singleton] <;> exact StableHlo.devRef_ne_of_ne (by decide)
  have h := h.1 c
  exact ⟨(h.2 main_arg0 (Pipeline.mem_restRefs_of main_arg0 (by decide) (by decide))).trans ((rest_keeps m c main_arg0 (hw _ (by decide)) (by decide) (by decide)).trans (V_main_arg0 m c)),
    (h.2 main_arg1 (Pipeline.mem_restRefs_of main_arg1 (by decide) (by decide))).trans ((rest_keeps m c main_arg1 (hw _ (by decide)) (by decide) (by decide)).trans (V_main_arg1 m c)),
    (h.1 1).trans (((dats m 0 c).arrAt_in 1 rfl _).trans ((A_eq m c 1).trans (V_main_arg2 m c))),
    (h.1 2).trans (((dats m 0 c).arrAt_in 2 rfl _).trans ((A_eq m c 2).trans (V_main_arg3 m c))),
    (h.1 3).trans (((dats m 0 c).arrAt_in 3 rfl _).trans ((A_eq m c 3).trans (V_main_arg4 m c))),
    (h.1 5).trans (((dats m 0 c).arrAt_in 5 rfl _).trans ((A_eq m c 5).trans (V_main_arg5 m c)))⟩

end Cert.KernelIdeal.Hand

end
-- ==== Proof.Spec.lean ====
/- The mathematics that the kernel and the reference share: the five results as sums over the extended reals, of one row of `dy` or of
   the whole arrays, with the int4 weights read out of their bytes. -/
module

public import Idealize.ShloMosaic.Lib.Pipeline.ValueKit
public import Idealize.ShloMosaic.Lib.Pointwise

@[expose] public section

noncomputable section

namespace Cert.Spec

open Idealize.ShloMosaic

/-- The signed int4 value in the low half (`p` even) or in the high half (`p` odd) of a byte. -/
def nib (v : BitVec 8) (p : ℕ) : ℤ :=
  let n : ℕ := if p % 2 = 0 then v.toNat % 16 else v.toNat / 16
  if 8 ≤ n then n - 16 else n

/-- Only the parity of the half's number counts. -/
theorem nib_mod (v : BitVec 8) (p : ℕ) : nib v p = nib v (p % 2) := by unfold nib; rw [Nat.mod_mod]

/-- The factor `alpha / rank`. -/
abbrev scale : EReal := Ideal.ofBits .f32 0x3F000000#32

/-- The reference computes it as a quotient, `16 / 32`. -/
theorem scale_eq : Ideal.div (Ideal.ofBits .f32 1098907648#32) (Ideal.ofBits .f32 1107296256#32) = scale := by
  have h16 : Ideal.ofBits .f32 1098907648#32 = ((16 : ℝ) : EReal) := by
    simp [Ideal.ofBits, Ideal.ieee, -EReal.coe_mul]; norm_num
  have h32 : Ideal.ofBits .f32 1107296256#32 = ((32 : ℝ) : EReal) := by
    simp [Ideal.ofBits, Ideal.ieee, -EReal.coe_mul]; norm_num
  have hh : scale = ((1 / 2 : ℝ) : EReal) := by
    simp [Ideal.ofBits, Ideal.ieee, -EReal.coe_mul]; norm_num
  rw [h16, h32, hh, Ideal.div_coe (by norm_num), ← EReal.coe_mul]
  norm_num

/-- The sixteen `bf16` words from `0x4300` on are the numbers from 128 on. -/
theorem ofBits_4300 (n : Fin 16) : Ideal.ofBits .bf16 (BitVec.ofNat 16 (17152 + n.val)) = (((128 + n.val : ℕ) : ℝ) : EReal) := by
  fin_cases n <;> simp [Ideal.ofBits, Ideal.ieee, -EReal.coe_mul] <;> norm_num

/-- The 32-bit word that the kernel makes of a byte: the low half in its low 16 bits, the high half in its high 16 bits. -/
abbrev word (v : BitVec 8) : BitVec 32 := (((v.setWidth 32) ||| ((v.setWidth 32) <<< (12#32))) &&& 983055#32) ^^^ 1124614920#32

/-- Each half of the word is `0x4300` plus the int4 value plus 8. -/
theorem half_eq : ∀ (v : BitVec 8) (p : Fin 2), (word v).extractLsb' (16 * p.val) 16 = BitVec.ofNat 16 (17152 + (nib v p.val + 8).toNat) := by
  decide +kernel

/-- An int4 value is between -8 and 7. -/
theorem nib_range : ∀ (v : BitVec 8) (p : Fin 2), 0 ≤ nib v p.val + 8 ∧ nib v p.val + 8 < 16 := by decide +kernel

/-- Half `p` of the word, read as a `bf16`, less 136 is the int4 value. -/
theorem decode_eq (v : BitVec 8) (p : ℕ) :
    Ideal.ofBits .bf16 ((word v).extractLsb' (16 * (p % 2)) 16) - Ideal.ofBits .bf16 17160#16 = ((nib v p : ℝ) : EReal) := by
  rw [nib_mod]
  have hp : p % 2 < 2 := Nat.mod_lt _ (by decide)
  have h := half_eq v ⟨p % 2, hp⟩
  have hr := nib_range v ⟨p % 2, hp⟩
  dsimp only at h hr
  rw [h]
  have e : (nib v (p % 2) + 8).toNat < 16 := by omega
  rw [ofBits_4300 ⟨(nib v (p % 2) + 8).toNat, e⟩, show (17160#16 : BitVec 16) = BitVec.ofNat 16 (17152 + (8 : Fin 16).val) from rfl, ofBits_4300 8, ← EReal.coe_sub]
  congr 1
  have : (((nib v (p % 2) + 8).toNat : ℤ) : ℝ) = ((nib v (p % 2) + 8 : ℤ) : ℝ) := by rw [Int.toNat_of_nonneg hr.1]
  push_cast at this ⊢
  rw [this]; simp

/-- The reference's low half: the byte masked with 15, less 16 from 8 on. -/
theorem low_eq : ∀ v : BitVec 8, (Scalar.select (IntOp.cmpi CmpIPredicate.sge (IntOp.andi (BitVec.setWidth 32 v) 15#32) 8#32)
    (IntOp.subi (IntOp.andi (BitVec.setWidth 32 v) 15#32) 16#32) (IntOp.andi (BitVec.setWidth 32 v) 15#32)).toInt = nib v 0 := by
  decide +kernel

/-- The reference's high half: the byte shifted right by 4, less 16 from 8 on. -/
theorem high_eq : ∀ v : BitVec 8, (Scalar.select (IntOp.cmpi CmpIPredicate.sge (IntOp.shrsi ArithUnit.host (BitVec.setWidth 32 v) 4#32) 8#32)
    (IntOp.subi (IntOp.shrsi ArithUnit.host (BitVec.setWidth 32 v) 4#32) 16#32) (IntOp.shrsi ArithUnit.host (BitVec.setWidth 32 v) 4#32)).toInt = nib v 1 := by
  decide +kernel

/-! ## The results -/

/-- Entry `(o, n)` of the weights: the int4 value times the scale of its group of 128 rows. -/
def wS (w : Fin 1792 → Fin 18944 → BitVec 8) (sc : Fin 28 → Fin 18944 → EReal) (o : Fin 3584) (n : Fin 18944) : EReal :=
  ((nib (w ⟨o.val / 2, by omega⟩ n) o.val : ℝ) : EReal) * sc ⟨o.val / 128, by omega⟩ n

/-- `xa = x · lora_a`, of a row of `x`. -/
def xaS (x : Fin 3584 → EReal) (la : Fin 3584 → Fin 32 → EReal) (l : Fin 32) : EReal := ∑ k, x k * la k l

/-- `g = dy · lora_bᵀ`, of a row of `dy`. -/
def gS (dy : Fin 18944 → EReal) (lb : Fin 32 → Fin 18944 → EReal) (l : Fin 32) : EReal := ∑ n, dy n * lb l n

/-- `dx = dy · Wᵀ + scale · (g · lora_aᵀ)`, of a row of `dy`. -/
def dxS (dy : Fin 18944 → EReal) (w : Fin 1792 → Fin 18944 → BitVec 8) (sc : Fin 28 → Fin 18944 → EReal) (la : Fin 3584 → Fin 32 → EReal)
    (lb : Fin 32 → Fin 18944 → EReal) (o : Fin 3584) : EReal :=
  (∑ n, dy n * wS w sc o n) + scale * ∑ l, gS dy lb l * la o l

/-- `d_lora_a = scale · (xᵀ · g)`. -/
def daS (x : Fin 1792 → Fin 3584 → EReal) (dy : Fin 1792 → Fin 18944 → EReal) (lb : Fin 32 → Fin 18944 → EReal) (k : Fin 3584) (l : Fin 32) : EReal :=
  scale * ∑ r, x r k * gS (dy r) lb l

/-- `d_lora_b = scale · (xaᵀ · dy)`. -/
def dbS (x : Fin 1792 → Fin 3584 → EReal) (dy : Fin 1792 → Fin 18944 → EReal) (la : Fin 3584 → Fin 32 → EReal) (l : Fin 32) (n : Fin 18944) : EReal :=
  scale * ∑ r, xaS (x r) la l * dy r n

end Cert.Spec

end
-- ==== Proof.KernelIdeal.Reads.lean ====
/- The kernel's arguments at an index, and what each of its blocks reads of them. -/
module

public import proofs.«01_k».proof.Proof.KernelIdeal.Frame
public import proofs.«01_k».proof.Proof.Spec
public import Idealize.ShloMosaic.Lib.Pipeline.ReadBack
public import Idealize.ShloMosaic.Lib.Claim
public import Idealize.ShloMosaic.Lib.StableHlo.ReadAt

@[expose] public section

set_option maxRecDepth 16384

noncomputable section

namespace Cert.KernelIdeal.Hand

open Idealize.ShloMosaic Idealize.ShloMosaic.TcCoe Idealize.ShloMosaic.Tactic
open Cert.KernelIdeal.Gen Cert.Spec

/-! ## Two readings of memory -/

/-- A load of a whole buffer after a transfer into all of it reads what the transfer brought. -/
theorem readCov_whole {sig : RefSig} {κ : Kind} {sp : Space} {s : Shape} {e : EltTy} {Val : EltTy → Type} [∀ e, Nonempty (Val e)] (v : View sig κ sp s e)
    (w : s.Idx → Val e) (L : List (View.Piece Val s e)) {off : Fin s.rank → ℕ} (inb : ∀ a, off a + s.size a ≤ s.size a) (h : ∀ a, off a = 0) :
    v.readCov (⟨Rect.whole s, w⟩ :: L) (Rect.unit off (no_index s.size) inb).toLoadRect = w := by
  have e : View.canon ((⟨Rect.whole s, w⟩ : View.Piece Val s e) :: L) = w := View.canon_cons_unit_lit (fun a => by simp) w L (fun _ => rfl)
  rw [View.readCov_eq_canon', e]
  exact View.ld_unit_lit _ _ h

/-- A buffer reads what a store into all of it brought last. -/
theorem read_writes_whole {sig : RefSig} {κ : Kind} {sp : Space} {s : Shape} {e : EltTy} {Val : EltTy → Type} (v : View sig κ sp s e) (f : v.ty.Contents Val)
    {off : Fin s.rank → ℕ} (inb : ∀ a, off a + s.size a ≤ s.size a) (w : s.Idx → Val e) (L : List (View.Piece Val s e)) (h : ∀ a, off a = 0) :
    v.read Val (v.writes Val f (⟨Rect.unit off (no_index s.size) inb, w⟩ :: L)) = w := by
  funext x
  have := View.read_writes_cons_emb v f (Rect.unit off s.size inb) w L x
  rwa [show (Rect.unit off s.size inb).emb x = x from funext fun a => Fin.ext (by
    exact (Rect.idx_unit_val off s.size inb x a).trans (by rw [h a, Nat.zero_add]))] at this

/-- A whole buffer after writes, at an index that one of them reaches. -/
theorem writes_whole {sig : RefSig} {κ : Kind} {Val : EltTy → Type} [∀ e, Nonempty (Val e)] (b : Ref sig κ) (f : (View.whole b).ty.Contents Val)
    (L : List (View.Piece Val b.ty.shape b.ty.elt)) (y : b.ty.shape.Idx) (h : ∃ p ∈ L, y ∈ p.1.set) : (View.whole b).writes Val f L y = View.canon L y :=
  View.read_writes_apply_eq_canon (View.whole b) f y L h

/-- A list's last (oldest) piece does not count where a later one covers. -/
theorem canon_dropLast {s : Shape} {e : EltTy} {Val : EltTy → Type} [∀ e, Nonempty (Val e)] : ∀ (L : List (View.Piece Val s e)) (y : s.Idx),
    (∃ p ∈ L.dropLast, y ∈ p.1.set) → View.canon L y = View.canon L.dropLast y
  | [], _, h => by obtain ⟨p, hp, _⟩ := h; simp at hp
  | [_], _, h => by obtain ⟨p, hp, _⟩ := h; simp at hp
  | p :: q :: L, y, h => by
    rw [List.dropLast_cons₂] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast (q :: L) y ?_
      obtain ⟨p', hp', hy⟩ := h
      rcases List.mem_cons.mp hp' with rfl | h'
      · exact absurd hy hm
      · exact ⟨p', h', hy⟩

/-- A slice of a whole buffer is read as the load of its rectangle. -/
theorem read_slice {Val : EltTy → Type} {sig : RefSig} {κ : Kind} (b : Ref sig κ) (R : Rect b.ty.shape) (f : b.ty.shape.Idx → Val b.ty.elt) :
    ReadAs.same.apply (View.read Val ((View.whole b).slice R) f) = View.ld f R := rfl

variable (m : (ℓ : Loc nD τ sig) → Buf (Elt Ideal) ℓ)

/-! ## The arguments -/

/-- Row `r` of `x`, the two leading axes joined. -/
def X (c : Dev nD) (r : Fin 1792) (k : Fin 3584) : EReal :=
  m ((c.tc : Thread nD τ).loc main_arg0) (ix3 ⟨r.val / 896, by omega⟩ ⟨r.val % 896, by omega⟩ k)
/-- Row `r` of `dy`. -/
def DY (c : Dev nD) (r : Fin 1792) (n : Fin 18944) : EReal :=
  m ((c.tc : Thread nD τ).loc main_arg1) (ix3 ⟨r.val / 896, by omega⟩ ⟨r.val % 896, by omega⟩ n)
/-- The packed weights. -/
def WP (c : Dev nD) (i : Fin 1792) (n : Fin 18944) : BitVec 8 := m ((c.tc : Thread nD τ).loc main_arg2) (ix2 i n)
/-- The scales. -/
def SC (c : Dev nD) (i : Fin 28) (n : Fin 18944) : EReal := m ((c.tc : Thread nD τ).loc main_arg3) (ix2 i n)
/-- `lora_a`. -/
def LA (c : Dev nD) (k : Fin 3584) (l : Fin 32) : EReal := m ((c.tc : Thread nD τ).loc main_arg4) (ix2 k l)
/-- `lora_b`. -/
def LB (c : Dev nD) (l : Fin 32) (n : Fin 18944) : EReal := m ((c.tc : Thread nD τ).loc main_arg5) (ix2 l n)

/-! ## What the region finds in its operands -/

/-- The region's first array is `x` with the two batches joined. -/
theorem V_v0 (c : Dev nD) (r : Fin 1792) (k : Fin 3584) : V m c main_v0 (ix2 r k) = X m c r k := by
  unfold V V0; after_reads_at; rfl
/-- The region's array of `dy` is `dy` with the two batches joined. -/
theorem V_v1 (c : Dev nD) (r : Fin 1792) (n : Fin 18944) : V m c main_v1 (ix2 r n) = DY m c r n := by
  unfold V V0; after_reads_at; rfl
/-- The transposed `lora_a` reads `lora_a` with its axes exchanged. -/
theorem V_v2 (c : Dev nD) (l : Fin 32) (k : Fin 3584) : V m c main_v2 (ix2 l k) = LA m c k l := by
  unfold V V0; after_reads_at; rfl

/-! ## The windows' blocks -/

/-- The block indices of the windows: the streamed ones step along the outputs with the grid, the others stay. -/
theorem idx : ∀ t : Fin cfg0.N, win0_0.index t 0 = 0 ∧ win0_0.index t 1 = t.val ∧ win0_1.index t 0 = 0 ∧ win0_1.index t 1 = t.val
    ∧ win0_2.index t 0 = 0 ∧ win0_2.index t 1 = t.val ∧ win0_3.index t 0 = 0 ∧ win0_3.index t 1 = 0
    ∧ win0_4.index t 0 = 0 ∧ win0_4.index t 1 = 0 ∧ win0_5.index t 0 = 0 ∧ win0_5.index t 1 = t.val := by decide +kernel

/-- Column `k` of chunk `t`. -/
abbrev ln (t : Fin cfg0.N) (k : Fin 512) : Fin 18944 :=
  ⟨t.val * 512 + k.val, by have := lt_of_lt_of_eq t.isLt (show cfg0.N = 37 from N_0); omega⟩

/-- The block of `dy` at a grid point is its chunk of the outputs. -/
theorem blk_0 (c : Dev nD) (t : Fin cfg0.N) (r : Fin 1792) (k : Fin 512) : iblk m c 0 t (ix2 r k) = DY m c r (ln t k) := by
  rw [← V_v1]; blk_ext [iblk, idx t]
/-- The block of the packed weights at a grid point is its chunk of the outputs. -/
theorem blk_1 (c : Dev nD) (t : Fin cfg0.N) (r : Fin 1792) (k : Fin 512) : iblk m c 1 t (ix2 r k) = WP m c r (ln t k) := by
  unfold WP; rw [← V_main_arg2 m c]; blk_ext [iblk, idx t]
/-- The block of the scales at a grid point is its chunk of the outputs. -/
theorem blk_2 (c : Dev nD) (t : Fin cfg0.N) (r : Fin 28) (k : Fin 512) : iblk m c 2 t (ix2 r k) = SC m c r (ln t k) := by
  unfold SC; rw [← V_main_arg3 m c]; blk_ext [iblk, idx t]
/-- The block of `lora_a` is the whole of it. -/
theorem blk_3 (c : Dev nD) (t : Fin cfg0.N) (k : Fin 3584) (l : Fin 32) : iblk m c 3 t (ix2 k l) = LA m c k l := by
  unfold LA; rw [← V_main_arg4 m c]; blk_ext [iblk, idx t]
/-- The block of the transposed `lora_a` is the whole of it. -/
theorem blk_4 (c : Dev nD) (t : Fin cfg0.N) (l : Fin 32) (k : Fin 3584) : iblk m c 4 t (ix2 l k) = LA m c k l := by
  rw [← V_v2]; blk_ext [iblk, idx t]
/-- The block of `lora_b` at a grid point is its chunk of the outputs. -/
theorem blk_5 (c : Dev nD) (t : Fin cfg0.N) (l : Fin 32) (k : Fin 512) : iblk m c 5 t (ix2 l k) = LB m c l (ln t k) := by
  unfold LB; rw [← V_main_arg5 m c]; blk_ext [iblk, idx t]

end Cert.KernelIdeal.Hand

end
-- ==== Proof.KernelIdeal.Tile.lean ====
/- What the kernel's computations are at an index. -/
module

public import proofs.«01_k».proof.Proof.KernelIdeal.Reads
public import Idealize.ShloMosaic.Lib.BitcastPair

@[expose] public section

set_option maxRecDepth 16384

noncomputable section

namespace Cert.KernelIdeal.Hand

open Idealize.ShloMosaic Idealize.ShloMosaic.TcCoe Idealize.ShloMosaic.Tactic
open Cert.KernelIdeal.Gen Cert.Spec

/-- An index of a matrix from its two coordinates. -/
theorem eq_ix2' {n0 n1 : ℕ} {x : (⟨2, ![n0, n1]⟩ : Shape).Idx} {a : Fin n0} {b : Fin n1} (h0 : (x 0).val = a.val) (h1 : (x 1).val = b.val) : x = ix2 a b := by
  rw [eq_ix2 x]; exact congrArg₂ ix2 (Fin.ext h0) (Fin.ext h1)

/-- One tile of `dy · Wᵀ`: 256 columns of the accumulator, of 128 rows of bytes and two rows of scales. Column `o` of the tile reads half `o % 2` of row
    `o / 2` of the bytes and row `o / 128` of the scales. -/
theorem tile_apply (v : Vec Ideal S128x512 .i8) (s : Vec Ideal S2x512 .bf16) (a : Vec Ideal S1792x256 .f32) (d : Vec Ideal S1792x512 .bf16) (r : Fin 1792) (o : Fin 256) :
    k0_pay36 v s a d (ix2 r o) = a (ix2 r o) + ∑ k : Fin 512, d (ix2 r k) * (((nib (v (ix2 ⟨o.val / 2, by omega⟩ k)) o.val : ℝ) : EReal) * s (ix2 ⟨o.val / 128, by omega⟩ k)) := by
  unfold k0_pay36
  pointwise
  refine congrArg (a (ix2 r o) + ·) (Finset.sum_congr rfl fun k _ => congrArg (d (ix2 r k) * ·) ?_)
  congr 1
  · rw [bitcast_32_16]
    have hs : (bitcasts_S128x512_w32_S256x512_w16).srcIdx (ix2 o k) (S256x512.row (ix2 o k) / 2) (fun a ha => by
        have := (bitcasts_S128x512_w32_S256x512_w16).pos_lt (ix2 o k) 0 (by decide) a ha; omega) = ix2 ⟨o.val / 2, by omega⟩ k := by
      funext a
      fin_cases a
      · exact Fin.ext (Shape.Bitcasts.srcIdx_row (ha := by decide) ..)
      · exact Fin.ext (Shape.Bitcasts.srcIdx_other (ha := by decide) ..)
    rw [hs]
    exact decode_eq _ _
  · split
    · next h => exact congrArg s (congrArg (ix2 · k) (Fin.ext (by change 0 = o.val / 128; omega)))
    · next h => exact congrArg s (congrArg (ix2 · k) (Fin.ext (by change 1 = o.val / 128; omega)))

/-- A tile of the accumulator whose columns start at `o3`, at the accumulator's index `y` that the tile's index `x` lands on: it adds a chunk of
    `dy · Wᵀ` to what was there. -/
theorem piece_apply {o1 o2 o3 : ℕ} (ho : o1 = 128 * (o3 / 256) ∧ o2 = 2 * (o3 / 256) ∧ o3 = 256 * (o3 / 256)) (w : Vec Ideal S1792x512 .i8) (sc : Vec Ideal S28x512 .bf16)
    (A : Vec Ideal S1792x3584 .f32) (D : Vec Ideal S1792x512 .bf16) (b1 : ∀ a, (![o1, 0] : Fin 2 → ℕ) a + S128x512.size a ≤ S1792x512.size a)
    (b2 : ∀ a, (![o2, 0] : Fin 2 → ℕ) a + S2x512.size a ≤ S28x512.size a) (b3 : ∀ a, (![0, o3] : Fin 2 → ℕ) a + S1792x256.size a ≤ S1792x3584.size a)
    (x : S1792x256.Idx) (r : Fin 1792) (o : Fin 3584) (h0 : r.val = (x 0).val) (h1 : o.val = o3 + (x 1).val) :
    k0_pay36 (View.ld w (Rect.unit ![o1, 0] S128x512.size b1)) (View.ld sc (Rect.unit ![o2, 0] S2x512.size b2)) (View.ld A (Rect.unit ![0, o3] S1792x256.size b3)) D x
      = A (ix2 r o) + ∑ k : Fin 512, D (ix2 r k) * (((nib (w (ix2 ⟨o.val / 2, by omega⟩ k)) o.val : ℝ) : EReal) * sc (ix2 ⟨o.val / 128, by omega⟩ k)) := by
  obtain ⟨p, q, rfl⟩ : ∃ p q, x = ix2 p q := ⟨x 0, x 1, eq_ix2 x⟩
  obtain rfl : r = p := Fin.ext h0
  replace h1 : o.val = o3 + q.val := h1
  rw [tile_apply]
  have hb : o3 / 256 < 14 := by omega
  have e3 : View.ld A (Rect.unit ![0, o3] S1792x256.size b3) (ix2 r q) = A (ix2 r o) :=
    congrArg A (eq_ix2' (by simp [Rect.unit]) (by simp [Rect.unit]; omega))
  have e1 (k : Fin 512) : View.ld w (Rect.unit ![o1, 0] S128x512.size b1) (ix2 ⟨q.val / 2, by omega⟩ k) = w (ix2 ⟨o.val / 2, by omega⟩ k) :=
    congrArg w (eq_ix2' (by simp [Rect.unit]; omega) (by simp [Rect.unit]))
  have e2 (k : Fin 512) : View.ld sc (Rect.unit ![o2, 0] S2x512.size b2) (ix2 ⟨q.val / 128, by omega⟩ k) = sc (ix2 ⟨o.val / 128, by omega⟩ k) :=
    congrArg sc (eq_ix2' (by simp [Rect.unit]; omega) (by simp [Rect.unit]))
  rw [e3]
  refine congrArg (A (ix2 r o) + ·) (Finset.sum_congr rfl fun k _ => ?_)
  rw [e1, e2, nib_mod _ q.val, show q.val % 2 = o.val % 2 by omega, ← nib_mod]

end Cert.KernelIdeal.Hand

end
-- ==== Proof.KernelIdeal.Steps.lean ====
/- What a point before the last leaves in the carried buffers, at an index. -/
module

public import proofs.«01_k».proof.Proof.KernelIdeal.Tile

@[expose] public section

set_option maxRecDepth 16384

noncomputable section

namespace Cert.KernelIdeal.Hand

open Idealize.ShloMosaic Idealize.ShloMosaic.TcCoe Idealize.ShloMosaic.Tactic
open Cert.KernelIdeal.Gen Cert.Spec

variable (m : (ℓ : Loc nD τ sig) → Buf (Elt Ideal) ℓ)

/-- The term that column `n` adds to entry `(r, o)` of `dy · Wᵀ`. -/
abbrev accT (c : Dev nD) (r : Fin 1792) (o : Fin 3584) (n : Fin 18944) : EReal := DY m c r n * wS (WP m c) (SC m c) o n

/-- The term that column `n` adds to entry `(r, l)` of `g`. -/
abbrev gT (c : Dev nD) (r : Fin 1792) (l : Fin 32) (n : Fin 18944) : EReal := DY m c r n * LB m c l n

/-- A chunk's part of `dy · Wᵀ`, from the blocks that the point reads. -/
theorem chunk_acc (c : Dev nD) (t : Fin cfg0.N) (r : Fin 1792) (o : Fin 3584) (D : Vec Ideal S1792x512 .bf16) (w : Vec Ideal S1792x512 .i8) (sc : Vec Ideal S28x512 .bf16)
    (hD : D = iblk m c 0 t) (hw : w = iblk m c 1 t) (hs : sc = iblk m c 2 t) :
    ∑ k : Fin 512, D (ix2 r k) * (((nib (w (ix2 ⟨o.val / 2, by omega⟩ k)) o.val : ℝ) : EReal) * sc (ix2 ⟨o.val / 128, by omega⟩ k))
      = ∑ k : Fin 512, accT m c r o (ln t k) := by
  subst hD hw hs
  exact Finset.sum_congr rfl fun k _ => by rw [blk_0, blk_1, blk_2]; rfl

/-- One tile's store at a point, at the accumulator's index that it lands on. -/
theorem tile_step (c : Dev nD) (t : Fin cfg0.N) {o1 o2 o3 : ℕ} (ho : o1 = 128 * (o3 / 256) ∧ o2 = 2 * (o3 / 256) ∧ o3 = 256 * (o3 / 256)) (A : Vec Ideal S1792x3584 .f32)
    (b1 : ∀ a, (![o1, 0] : Fin 2 → ℕ) a + S128x512.size a ≤ S1792x512.size a)
    (b2 : ∀ a, (![o2, 0] : Fin 2 → ℕ) a + S2x512.size a ≤ S28x512.size a) (b3 : ∀ a, (![0, o3] : Fin 2 → ℕ) a + S1792x256.size a ≤ S1792x3584.size a)
    (x : S1792x256.Idx) (r : Fin 1792) (o : Fin 3584) (h0 : r.val = (x 0).val) (h1 : o.val = o3 + (x 1).val) (a : EReal) (ha : A (ix2 r o) = a) :
    k0_pay36 (View.ld (iblk m c 1 t) (Rect.unit ![o1, 0] S128x512.size b1)) (View.ld (iblk m c 2 t) (Rect.unit ![o2, 0] S2x512.size b2))
      (View.ld A (Rect.unit ![0, o3] S1792x256.size b3)) (iblk m c 0 t) x = a + ∑ k : Fin 512, accT m c r o (ln t k) := by
  subst ha
  exact (piece_apply ho _ _ A _ b1 b2 b3 x r o h0 h1).trans (congrArg (A (ix2 r o) + ·) (chunk_acc m c t r o _ _ _ rfl rfl rfl))

/-- One entry of the new `g`, transposed: what was there, and a chunk's products. -/
theorem pay28_apply (d : Vec Ideal S1792x512 .bf16) (g : Vec Ideal S32x1792 .f32) (b : Vec Ideal S32x512 .bf16) (l : Fin 32) (r : Fin 1792) :
    k0_pay28 d g b (ix2 l r) = g (ix2 l r) + ∑ k : Fin 512, b (ix2 l k) * d (ix2 r k) := by
  unfold_payloads; pointwise

/-- A grid point's step on the accumulator of `g` adds the sum over its chunk. -/
theorem chunk_g (c : Dev nD) (t : Fin cfg0.N) (r : Fin 1792) (l : Fin 32) (g : Vec Ideal S32x1792 .f32) :
    k0_pay28 (iblk m c 0 t) g (iblk m c 5 t) (ix2 l r) = g (ix2 l r) + ∑ k : Fin 512, gT m c r l (ln t k) := by
  rw [pay28_apply]
  refine congrArg (g (ix2 l r) + ·) (Finset.sum_congr rfl fun k _ => ?_)
  rw [blk_0, blk_5]; exact mul_comm _ _

/-! ## A middle point -/

/-- An inner grid point adds the sum over its chunk to the accumulator of `dx`. -/
theorem stB_acc (c : Dev nD) (t : Fin cfg0.N) (h0 : t.val ≠ 0) (h1 : t.val ≠ 36) (s : St Ideal) (r : Fin 1792) (o : Fin 3584) :
    (stB m c t h0 h1 s).acc (ix2 r o) = s.acc (ix2 r o) + ∑ k : Fin 512, accT m c r o (ln t k) := by
  unfold stB; dsimp only
  unfold rB
  frame_out
  simp only [read_unread_whole]
  canon_tiles x h
  all_goals exact tile_step m c t (by decide) s.acc _ _ _ x r o h0 (by first | exact h1 | exact h1.trans (Nat.zero_add _).symm) _ rfl

/-- An inner grid point adds the sum over its chunk to the accumulator of `g`. -/
theorem stB_gt (c : Dev nD) (t : Fin cfg0.N) (h0 : t.val ≠ 0) (h1 : t.val ≠ 36) (s : St Ideal) (l : Fin 32) (r : Fin 1792) :
    (stB m c t h0 h1 s).gt (ix2 l r) = s.gt (ix2 l r) + ∑ k : Fin 512, gT m c r l (ln t k) := by
  unfold stB; dsimp only
  unfold rB
  frame_out
  simp only [read_unread_whole]
  exact chunk_g m c t r l s.gt

/-! ## The first point -/

/-- The first grid point leaves the sum over the first chunk in the accumulator of `dx`. -/
theorem stA_acc (c : Dev nD) (r : Fin 1792) (o : Fin 3584) : (stA m c).acc (ix2 r o) = 0 + ∑ k : Fin 512, accT m c r o (ln t0 k) := by
  have e : (k0_pay25 (F := Ideal)) (ix2 r o) = 0 := by unfold_payloads; pointwise
  unfold stA; dsimp only
  unfold rA
  frame_out
  simp (disch := decide) only [↓ View.readCov_skip, ↓ View.readCov_cons_toLoadRect, ↓ View.readCov_fill]
  refine (canon_dropLast _ _ ?_).trans ?_
  · exact View.cover_of_tiled_head _ _ _ (by rfl) _
  dsimp only [List.dropLast]
  canon_tiles x h
  all_goals exact tile_step m c t0 (by decide) (k0_pay25 (F := Ideal)) _ _ _ x r o h0 (by first | exact h1 | exact h1.trans (Nat.zero_add _).symm) _ e

/-- The first grid point leaves the sum over the first chunk in the accumulator of `g`. -/
theorem stA_gt (c : Dev nD) (l : Fin 32) (r : Fin 1792) : (stA m c).gt (ix2 l r) = 0 + ∑ k : Fin 512, gT m c r l (ln t0 k) := by
  have e : (k0_pay26 (F := Ideal)) (ix2 l r) = 0 := by unfold_payloads; pointwise
  unfold stA; dsimp only
  unfold rA
  frame_out
  rw [← e]
  exact chunk_g m c t0 r l _

/-! ## `xa`

The first point computes it from the seven transfers of `x`, 512 columns each. -/

/-- The sum over the 3584 columns of `x`, transfer by transfer. -/
theorem sum_seven (f : Fin 3584 → EReal) :
    (∑ k : Fin 512, f ⟨0 + k.val, by omega⟩) + (∑ k : Fin 512, f ⟨512 + k.val, by omega⟩) + (∑ k : Fin 512, f ⟨1024 + k.val, by omega⟩)
      + (∑ k : Fin 512, f ⟨1536 + k.val, by omega⟩) + (∑ k : Fin 512, f ⟨2048 + k.val, by omega⟩) + (∑ k : Fin 512, f ⟨2560 + k.val, by omega⟩)
      + (∑ k : Fin 512, f ⟨3072 + k.val, by omega⟩) = ∑ k, f k := by
  rw [← Fin.sum_mul_add_fin 7 512 f, Fin.sum_univ_seven]
  rfl

/-- A transfer of 512 columns of `x`, at an index. -/
theorem x_slice (c : Dev nD) (o : ℕ) (hb : ∀ a, (![0, o] : Fin 2 → ℕ) a + S1792x512.size a ≤ S1792x3584.size a) (r : Fin 1792) (k : Fin 512) (i : Fin 3584) (hi : i.val = o + k.val) :
    ReadAs.same.apply (View.read (Elt Ideal) ((View.whole main_v0).slice (Rect.unit ![0, o] S1792x512.size hb)) (V m c main_v0)) (ix2 r k) = X m c r i := by
  rw [read_slice, ← V_v0]
  exact congrArg (V m c main_v0) (eq_ix2' (by simp [Rect.unit]) (by simp [Rect.unit, hi]))

/-- A product of the transposed `lora_a` and of a transfer of `x`. -/
theorem x_mul (c : Dev nD) (t : Fin cfg0.N) (o : ℕ) (hb : ∀ a, (![0, o] : Fin 2 → ℕ) a + S1792x512.size a ≤ S1792x3584.size a) (r : Fin 1792) (k : Fin 512) (l : Fin 32)
    (i : Fin 3584) (hi : i.val = o + k.val) :
    @HMul.hMul EReal EReal EReal _ (iblk m c 4 t (ix2 l i))
      (ReadAs.same.apply (View.read (Elt Ideal) ((View.whole main_v0).slice (Rect.unit ![0, o] S1792x512.size hb)) (V m c main_v0)) (ix2 r k)) = X m c r i * LA m c i l := by
  rw [blk_4, x_slice m c o hb r k i hi]; exact mul_comm _ _

/-- The first grid point leaves the transposed product of `x` and `lora_a`. -/
theorem stA_xat (c : Dev nD) (l : Fin 32) (r : Fin 1792) : (stA m c).xat (ix2 l r) = xaS (X m c r) (LA m c) l := by
  unfold stA; dsimp only
  unfold rA
  frame_out
  simp (disch := first | decide | rfl) only [↓ readCov_whole]
  unfold_payloads
  pointwise
  unfold xaS
  rw [← sum_seven]
  simp only [Nat.zero_add]
  iterate 6 refine congrArg₂ (· + ·) ?_ ?_
  all_goals exact Finset.sum_congr rfl fun k _ => x_mul m c t0 _ _ r k l _ (by first | rfl | exact (Nat.zero_add _).symm)

/-- The stored `xa` is the product of `x` and `lora_a`. -/
theorem xaOut_apply (c : Dev nD) (r : Fin 1792) (l : Fin 32) : xaOut m c (ix2 r l) = xaS (X m c r) (LA m c) l := by
  rw [← stA_xat]
  unfold xaOut stA; dsimp only
  unfold rA
  frame_out
  unfold_payloads
  pointwise

/-! ## The states -/

/-- The chunk of 512 terms that point `p` adds. -/
abbrev chunk (f : Fin 18944 → EReal) (p : Fin 37) : EReal := ∑ k : Fin 512, f ⟨p.val * 512 + k.val, by omega⟩

/-- All 37 chunks are the whole sum. -/
theorem sum_chunks (f : Fin 18944 → EReal) : ∑ p : Fin 37, chunk f p = ∑ n, f n := Fin.sum_mul_add_fin 37 512 f

/-- The successor of a number under 36 is a grid point. -/
theorem lt_37 {n : ℕ} (h : n < 36) : n + 1 < cfg0.N := by rw [show cfg0.N = 37 from N_0]; omega

/-- The transposed `xa` stays what the first grid point left. -/
theorem st_xat (c : Dev nD) : ∀ n (_ : n < 36), (st m c n).xat = (stA m c).xat
  | 0, _ => rfl
  | n + 1, h =>
    (congrArg St.xat (st_mid m c ⟨n + 1, lt_37 (by omega)⟩ (Nat.succ_ne_zero n) (Nat.ne_of_lt h))).trans (st_xat c n (by omega))

/-- The accumulator of `dx` holds the sums over the chunks so far. -/
theorem st_acc (c : Dev nD) (r : Fin 1792) (o : Fin 3584) : ∀ n (h : n < 36), (st m c n).acc (ix2 r o) = ∑ p : Fin (n + 1), chunk (accT m c r o) ⟨p.val, by omega⟩
  | 0, _ => ((stA_acc m c r o).trans (zero_add _)).trans (Fin.sum_univ_one (fun p : Fin 1 => chunk (accT m c r o) ⟨p.val, by omega⟩)).symm
  | n + 1, h => by
    refine Eq.trans ?_ (Fin.sum_univ_castSucc _).symm
    refine (congrArg (fun s : St Ideal => s.acc (ix2 r o)) (st_mid m c ⟨n + 1, lt_37 (by omega)⟩ (Nat.succ_ne_zero n) (Nat.ne_of_lt h))).trans ?_
    exact (stB_acc m c _ _ _ _ r o).trans (congrArg (· + _) (st_acc c r o n (by omega)))

/-- The accumulator of `g` holds the sums over the chunks so far. -/
theorem st_gt (c : Dev nD) (r : Fin 1792) (l : Fin 32) : ∀ n (h : n < 36), (st m c n).gt (ix2 l r) = ∑ p : Fin (n + 1), chunk (gT m c r l) ⟨p.val, by omega⟩
  | 0, _ => ((stA_gt m c l r).trans (zero_add _)).trans (Fin.sum_univ_one (fun p : Fin 1 => chunk (gT m c r l) ⟨p.val, by omega⟩)).symm
  | n + 1, h => by
    refine Eq.trans ?_ (Fin.sum_univ_castSucc _).symm
    refine (congrArg (fun s : St Ideal => s.gt (ix2 l r)) (st_mid m c ⟨n + 1, lt_37 (by omega)⟩ (Nat.succ_ne_zero n) (Nat.ne_of_lt h))).trans ?_
    exact (stB_gt m c _ _ _ _ l r).trans (congrArg (· + _) (st_gt c r l n (by omega)))

/-! ## The `lora_b` gradient -/

/-- The block of `d_lora_b` is the scaled sum over the tokens. -/
theorem pay29_apply (d : Vec Ideal S1792x512 .bf16) (xa : Vec Ideal S32x1792 .bf16) (l : Fin 32) (k : Fin 512) :
    k0_pay29 d xa (ix2 l k) = scale * ∑ r : Fin 1792, xa (ix2 l r) * d (ix2 r k) := by
  unfold_payloads; pointwise

/-- Every grid point stores its block of `d_lora_b` from its `dy` and the first point's `xa`. -/
theorem dbAt_eq (c : Dev nD) (t : Fin cfg0.N) : dbAt m c t = k0_pay29 (iblk m c 0 t) (stA m c).xat := by
  unfold dbAt
  split
  · next h =>
    obtain rfl : t = t0 := Fin.ext h
    unfold stA; dsimp only
    unfold rA
    frame_out
  · split
    · next h =>
      obtain rfl : t = t36 := Fin.ext h
      rw [← st_xat m c 35 (by decide)]
      unfold rC
      frame_out
      simp only [read_unread_whole]
    · rw [← st_xat m c (t.val - 1) (by have := lt_of_lt_of_eq t.isLt (show cfg0.N = 37 from N_0); omega)]
      unfold rB
      frame_out
      simp only [read_unread_whole]

/-- The block of `d_lora_b` at a grid point is its chunk of the scaled sum over the tokens. -/
theorem dbAt_apply (c : Dev nD) (t : Fin cfg0.N) (l : Fin 32) (k : Fin 512) : dbAt m c t (ix2 l k) = dbS (X m c) (DY m c) (LA m c) l (ln t k) := by
  rw [dbAt_eq, pay29_apply]
  unfold dbS
  refine congrArg (scale * ·) (Finset.sum_congr rfl fun r _ => ?_)
  rw [stA_xat, blk_0]

end Cert.KernelIdeal.Hand

end
-- ==== Proof.KernelIdeal.Last.lean ====
/- What the last point stores and transfers, at an index. -/
module

public import proofs.«01_k».proof.Proof.KernelIdeal.Steps

@[expose] public section

set_option maxRecDepth 16384

noncomputable section

namespace Cert.KernelIdeal.Hand

open Idealize.ShloMosaic Idealize.ShloMosaic.TcCoe Idealize.ShloMosaic.Tactic
open Cert.KernelIdeal.Gen Cert.Spec

variable (m : (ℓ : Loc nD τ sig) → Buf (Elt Ideal) ℓ)

/-! ## The carried buffers after the last point -/

/-- `g`, transposed. -/
def gtC (c : Dev nD) : Vec Ideal S32x1792 .f32 := k0_pay28 (iblk m c 0 t36) (st m c 35).gt (iblk m c 5 t36)

/-- After the last grid point the accumulator of `g` holds, transposed, the whole sum over the outputs. -/
theorem gtC_apply (c : Dev nD) (l : Fin 32) (r : Fin 1792) : gtC m c (ix2 l r) = gS (DY m c r) (LB m c) l := by
  refine ((chunk_g m c t36 r l _).trans (congrArg (· + _) (st_gt m c r l 35 (by decide)))).trans ?_
  exact (Fin.sum_univ_castSucc (chunk (gT m c r l))).symm.trans (sum_chunks _)

/-- `dy · Wᵀ`. -/
def accC (c : Dev nD) : Vec Ideal S1792x3584 .f32 := View.canon (rC m c t36 c0_t36 c1_t36 (st m c 35)).2.2.2.1

/-- After the last grid point the accumulator of `dx` holds the whole sum over the outputs. -/
theorem accC_apply (c : Dev nD) (r : Fin 1792) (o : Fin 3584) : accC m c (ix2 r o) = ∑ n, accT m c r o n := by
  rw [← sum_chunks, Fin.sum_univ_castSucc]
  have e := st_acc m c r o 35 (by decide)
  unfold accC
  unfold rC
  frame_out
  simp only [read_unread_whole]
  canon_tiles x h
  all_goals exact tile_step m c t36 (by decide) _ _ _ _ x r o h0 (by first | exact h1 | exact h1.trans (Nat.zero_add _).symm) _ e

/-! ## `g` -/

/-- The stored `g` is the sum of `dy` against `lora_b`. -/
theorem gOut_apply (c : Dev nD) (r : Fin 1792) (l : Fin 32) : gOut m c (ix2 r l) = gS (DY m c r) (LB m c) l := by
  rw [← gtC_apply]
  unfold gOut
  unfold rC
  frame_out
  simp only [read_unread_whole]
  change k0_pay7 (gtC m c) (ix2 r l) = _
  unfold_payloads; pointwise

/-! ## The `lora_a` gradient -/

/-- A piece of the transposed `d_lora_a` is the scaled sum over the tokens. -/
theorem pay10_apply (g : Vec Ideal S32x1792 .bf16) (x : Vec Ideal S1792x512 .bf16) (l : Fin 32) (k : Fin 512) :
    k0_pay10 g x (ix2 l k) = scale * ∑ r : Fin 1792, g (ix2 l r) * x (ix2 r k) := by
  unfold_payloads; pointwise

/-- Rounding the accumulator of `g` changes nothing over the extended reals. -/
theorem pay6_apply (g : Vec Ideal S32x1792 .f32) (l : Fin 32) (r : Fin 1792) : k0_pay6 g (ix2 l r) = g (ix2 l r) := by
  unfold_payloads; pointwise

/-- One of the seven stores of the gradient, at the index that it lands on. -/
theorem da_piece (c : Dev nD) (o : ℕ) (hb : ∀ a, (![0, o] : Fin 2 → ℕ) a + S1792x512.size a ≤ S1792x3584.size a) (x : S32x512.Idx) (l : Fin 32) (k : Fin 3584)
    (h0 : l.val = (x 0).val) (h1 : k.val = o + (x 1).val) :
    k0_pay10 (k0_pay6 (gtC m c)) (ReadAs.same.apply (View.read (Elt Ideal) ((View.whole main_v0).slice (Rect.unit ![0, o] S1792x512.size hb)) (V m c main_v0))) x
      = daS (X m c) (DY m c) (LB m c) k l := by
  obtain ⟨p, q, rfl⟩ : ∃ p q, x = ix2 p q := ⟨x 0, x 1, eq_ix2 x⟩
  obtain rfl : l = p := Fin.ext h0
  rw [pay10_apply]
  unfold daS
  refine congrArg (scale * ·) (Finset.sum_congr rfl fun r _ => ?_)
  rw [pay6_apply, gtC_apply, x_slice m c o hb r q k h1]
  exact mul_comm _ _

/-- The stored transposed `d_lora_a` is the scaled sum over all tokens. -/
theorem daOut_apply (c : Dev nD) (l : Fin 32) (k : Fin 3584) : daOut m c (ix2 l k) = daS (X m c) (DY m c) (LB m c) k l := by
  unfold daOut
  unfold rC
  frame_out
  simp (disch := first | decide | rfl) only [↓ readCov_whole, read_unread_whole]
  canon_tiles x h
  all_goals exact da_piece m c _ _ x l k h0 (by first | exact h1 | exact h1.trans (Nat.zero_add _).symm)

/-! ## `dx` -/

/-- A piece of `dx` is the accumulator plus the scaled product of `g` and `lora_a`. -/
theorem pay11_apply (g : Vec Ideal S1792x32 .bf16) (la : Vec Ideal S512x32 .bf16) (a : Vec Ideal S1792x512 .f32) (r : Fin 1792) (k : Fin 512) :
    k0_pay11 g la a (ix2 r k) = a (ix2 r k) + scale * ∑ l : Fin 32, g (ix2 r l) * la (ix2 k l) := by
  unfold_payloads; pointwise

/-- The stored `g` is the transposed accumulator. -/
theorem pay7_apply (g : Vec Ideal S32x1792 .f32) (r : Fin 1792) (l : Fin 32) : k0_pay7 g (ix2 r l) = g (ix2 l r) := by
  unfold_payloads; pointwise

/-- One of the seven blocks of `dx` that the transfers bring, at the index that it lands on. -/
theorem dx_piece (c : Dev nD) (o : ℕ) (hb : ∀ a, (![0, o] : Fin 2 → ℕ) a + S1792x512.size a ≤ S1792x3584.size a)
    (hl : ∀ a, (![o, 0] : Fin 2 → ℕ) a + S512x32.size a ≤ S3584x32.size a) (x : S1792x512.Idx) (r : Fin 1792) (k : Fin 3584)
    (h0 : r.val = (x 0).val) (h1 : k.val = o + (x 1).val) :
    k0_pay11 (k0_pay7 (gtC m c)) (View.ld (iblk m c 3 t36) (Rect.unit ![o, 0] S512x32.size hl)) (fun j : S1792x512.Idx => accC m c ((Rect.unit (s := S1792x3584) ![0, o] S1792x512.size hb).idx j)) x
      = dxS (DY m c r) (WP m c) (SC m c) (LA m c) (LB m c) k := by
  obtain ⟨p, q, rfl⟩ : ∃ p q, x = ix2 p q := ⟨x 0, x 1, eq_ix2 x⟩
  obtain rfl : r = p := Fin.ext h0
  replace h1 : k.val = o + q.val := h1
  rw [pay11_apply]
  unfold dxS
  have ea : accC m c ((Rect.unit (s := S1792x3584) ![0, o] S1792x512.size hb).idx (ix2 r q)) = accC m c (ix2 r k) :=
    congrArg (accC m c) (eq_ix2' (by simp [Rect.unit]) (by simp [Rect.unit, h1]))
  have el (l : Fin 32) : View.ld (iblk m c 3 t36) (Rect.unit ![o, 0] S512x32.size hl) (ix2 q l) = LA m c k l :=
    (congrArg (iblk m c 3 t36) (eq_ix2' (by simp [Rect.unit, h1]) (by simp [Rect.unit]))).trans (blk_3 m c t36 k l)
  refine congrArg₂ (· + ·) (ea.trans (accC_apply m c r k)) (congrArg (scale * ·) (Finset.sum_congr rfl fun l _ => ?_))
  exact congrArg₂ (· * ·) ((pay7_apply ..).trans (gtC_apply ..)) (el l)

/-- The `dx` the last grid point transfers is the weight's product plus the scaled product of `g` and `lora_a`. -/
theorem dxOut_apply (c : Dev nD) (r : Fin 1792) (k : Fin 3584) :
    dxOut m c (ix2 r k) = dxS (DY m c r) (WP m c) (SC m c) (LA m c) (LB m c) k := by
  unfold dxOut
  unfold rC
  frame_out
  simp (disch := first | decide | rfl) only [↓ readCov_whole, read_unread_whole, View.readCov_eq_canon']
  generalize hA : View.canon (Val := Elt Ideal) (s := S1792x3584) (e := .f32) [_,_,_,_,_,_,_,_,_,_,_,_,_,_] = A
  have hA' : A = accC m c := by
    rw [← hA]; unfold accC; unfold rC; frame_out; simp only [read_unread_whole]
  clear hA; subst hA'
  simp (disch := first | decide | rfl) only [↓ read_writes_whole]
  refine (writes_whole main_v3_0 _ _ _ ?_).trans ?_
  · exact View.cover_of_tiled_head _ _ _ (by rfl) _
  canon_tiles x h
  all_goals exact dx_piece m c _ _ _ x r k h0 (by first | exact h1 | exact h1.trans (Nat.zero_add _).symm)

end Cert.KernelIdeal.Hand

end
-- ==== Proof.KernelIdeal.Values.lean ====
/- The kernel's five results over the extended reals are, index by index, the sums of `Cert.Spec`. -/
module

public import proofs.«01_k».proof.Proof.KernelIdeal.Last

@[expose] public section

set_option maxRecDepth 16384

noncomputable section

namespace Cert.KernelIdeal.Hand

open Idealize.ShloMosaic Idealize.ShloMosaic.TcCoe Idealize.ShloMosaic.Tactic Idealize.SL.Sem
open Cert.KernelIdeal.Gen Cert.Spec

variable (m : (ℓ : Loc nD τ sig) → Buf (Elt Ideal) ℓ)

/-! ## The output arrays after the region -/

/-- The array of the transposed `d_lora_a` after the region. -/
theorem arr_da (c : Dev nD) : (dats m 0 c).arrAt 6 cfg0.N = fun j : S32x3584.Idx => daS (X m c) (DY m c) (LB m c) (j 1) (j 0) := by
  refine (dats m 0 c).arrAt_eq_of_after_last 6 t36 (by decide +kernel) _ fun j => ?_
  blk_simp
  rw [after0_6]
  exact (congrArg (daOut m c) (eq_ix2 _)).trans (daOut_apply m c (j 0) (j 1))

/-- The block of `d_lora_b` steps along the outputs with the grid. -/
theorem idx_7 : ∀ t : Fin cfg0.N, win0_7.index t 0 = 0 ∧ win0_7.index t 1 = t.val := by decide +kernel

/-- The array of `d_lora_b` after the region, put together from the blocks of all grid points. -/
theorem arr_db (c : Dev nD) : (dats m 0 c).arrAt 7 cfg0.N = fun j : S32x18944.Idx => dbS (X m c) (DY m c) (LA m c) (j 0) (j 1) := by
  refine (dats m 0 c).arrAt_eq_of_covers 7 _ (by decide +kernel) fun t hf y => ?_
  blk_simp
  rw [after0_7]
  refine (congrArg (dbAt m c t) (eq_ix2 (y : S32x512.Idx))).trans ((dbAt_apply m c t (y 0) (y 1)).trans ?_)
  refine congrArg₂ (dbS (X m c) (DY m c) (LA m c)) (Fin.ext ?_) (Fin.ext ?_)
  · blk_simp [idx_7 t]
  · blk_simp [idx_7 t]

/-- The array of `g` after the region. -/
theorem arr_g (c : Dev nD) : (dats m 0 c).arrAt 8 cfg0.N = fun j : S1792x32.Idx => gS (DY m c (j 0)) (LB m c) (j 1) := by
  refine (dats m 0 c).arrAt_eq_of_after_last 8 t36 (by decide +kernel) _ fun j => ?_
  blk_simp
  rw [after0_8]
  exact (congrArg (gOut m c) (eq_ix2 _)).trans (gOut_apply m c (j 0) (j 1))

/-- The array of `xa` after the region. -/
theorem arr_xa (c : Dev nD) : (dats m 0 c).arrAt 9 cfg0.N = fun j : S1792x32.Idx => xaS (X m c (j 0)) (LA m c) (j 1) := by
  refine (dats m 0 c).arrAt_eq_of_after_last 9 t36 (by decide +kernel) _ fun j => ?_
  blk_simp
  rw [after0_9]
  exact (congrArg (xaOut m c) (eq_ix2 _)).trans (xaOut_apply m c (j 0) (j 1))

/-! ## The results -/

/-- Row `r` of a batch, in the joined axis. -/
abbrev row (b : Fin 2) (r : Fin 896) : Fin 1792 := ⟨b.val * 896 + r.val, by omega⟩

/-- What the host lines after the region find: the arrays as the region left them. -/
abbrev VN (c : Dev nD) : Valuation τ sig (Elt Ideal) :=
  Pipeline.withArrays spec0 c (Pipeline.withR (V0 m c) RR c (GV m c)) fun w => (dats m 0 c).arrAt w cfg0.N

/-- The host lines find the array of `dx` as the last grid point left it. -/
theorem VN_dx (c : Dev nD) : VN m c (Proc.devRef .tc main_v3_0) = dxOut m c :=
  (Pipeline.withArrays_of_ne _ c _ _ main_v3_0 (by decide)).trans ((Pipeline.withR_of_mem _ RR c _ main_v3_0 (by decide)).trans (GV_dx m c))
/-- The host lines find the transposed `d_lora_a`. -/
theorem VN_da (c : Dev nD) : VN m c (Proc.devRef .tc main_v3_1) = fun j : S32x3584.Idx => daS (X m c) (DY m c) (LB m c) (j 1) (j 0) :=
  (Pipeline.withArrays_arr spec0 launch0.win.arr_inj c _ _ 6).trans (arr_da m c)
/-- The host lines find `g` with the two batches joined. -/
theorem VN_g (c : Dev nD) : VN m c (Proc.devRef .tc main_v3_3) = fun j : S1792x32.Idx => gS (DY m c (j 0)) (LB m c) (j 1) :=
  (Pipeline.withArrays_arr spec0 launch0.win.arr_inj c _ _ 8).trans (arr_g m c)
/-- The host lines find `xa` with the two batches joined. -/
theorem VN_xa (c : Dev nD) : VN m c (Proc.devRef .tc main_v3_4) = fun j : S1792x32.Idx => xaS (X m c (j 0)) (LA m c) (j 1) :=
  (Pipeline.withArrays_arr spec0 launch0.win.arr_inj c _ _ 9).trans (arr_xa m c)

/-- The result `dx`, at each batch, row and column. -/
theorem res_dx (c : Dev nD) (b : Fin 2) (r : Fin 896) (k : Fin 3584) : StableHlo.after ([hostOps1].flatten) (VN m c) (Proc.devRef .tc main_v4) (ix3 b r k)
    = dxS (DY m c (row b r)) (WP m c) (SC m c) (LA m c) (LB m c) k := by
  rw [← dxOut_apply, ← VN_dx]
  generalize VN m c = W
  after_reads_at

/-- The result `d_lora_a`, at each row and column. -/
theorem res_da (c : Dev nD) (k : Fin 3584) (l : Fin 32) : StableHlo.after ([hostOps1].flatten) (VN m c) (Proc.devRef .tc main_v5) (ix2 k l)
    = daS (X m c) (DY m c) (LB m c) k l := by
  refine Eq.trans ?_ (congrFun (VN_da m c) (ix2 l k))
  generalize VN m c = W
  after_reads_at

/-- The result `g`, at each batch, row and column. -/
theorem res_g (c : Dev nD) (b : Fin 2) (r : Fin 896) (l : Fin 32) : StableHlo.after ([hostOps1].flatten) (VN m c) (Proc.devRef .tc main_v6) (ix3 b r l)
    = gS (DY m c (row b r)) (LB m c) l := by
  refine Eq.trans ?_ (congrFun (VN_g m c) (ix2 (row b r) l))
  generalize VN m c = W
  after_reads_at

/-- The result `xa`, at each batch, row and column. -/
theorem res_xa (c : Dev nD) (b : Fin 2) (r : Fin 896) (l : Fin 32) : StableHlo.after ([hostOps1].flatten) (VN m c) (Proc.devRef .tc main_v7) (ix3 b r l)
    = xaS (X m c (row b r)) (LA m c) l := by
  refine Eq.trans ?_ (congrFun (VN_xa m c) (ix2 (row b r) l))
  generalize VN m c = W
  after_reads_at

/-- The kernel ends with the five results at `Cert.Spec`'s sums of its arguments, and its arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v4) = (fun j : S2x896x3584.Idx => dxS (DY m c (row (j 0) (j 1))) (WP m c) (SC m c) (LA m c) (LB m c) (j 2))
      ∧ r.2.mem ((c.tc : Thread nD τ).loc main_v5) = (fun j : S3584x32.Idx => daS (X m c) (DY m c) (LB m c) (j 0) (j 1))
      ∧ r.2.mem ((c.tc : Thread nD τ).loc main_v3_2) = (fun j : S32x18944.Idx => dbS (X m c) (DY m c) (LA m c) (j 0) (j 1))
      ∧ r.2.mem ((c.tc : Thread nD τ).loc main_v6) = (fun j : S2x896x32.Idx => gS (DY m c (row (j 0) (j 1))) (LB m c) (j 2))
      ∧ r.2.mem ((c.tc : Thread nD τ).loc main_v7) = (fun j : S2x896x32.Idx => xaS (X m c (row (j 0) (j 1))) (LA m c) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_main m ρ)
  have rest (b : Ref sig .tc) (hb : b ∈ Pipeline.restRefs sig spec0) := (h.1 c).2 b hb
  refine ⟨(rest main_v4 (Pipeline.mem_restRefs_of main_v4 (by decide) (by decide))).trans ?_,
    (rest main_v5 (Pipeline.mem_restRefs_of main_v5 (by decide) (by decide))).trans ?_, ((h.1 c).1 7).trans (arr_db m c),
    (rest main_v6 (Pipeline.mem_restRefs_of main_v6 (by decide) (by decide))).trans ?_,
    (rest main_v7 (Pipeline.mem_restRefs_of main_v7 (by decide) (by decide))).trans ?_, frame_args m h c⟩
  · funext j; exact (congrArg _ (eq_ix3 j)).trans (res_dx m c _ _ _)
  · funext j; exact (congrArg _ (eq_ix2 j)).trans (res_da m c _ _)
  · funext j; exact (congrArg _ (eq_ix3 j)).trans (res_g m c _ _ _)
  · funext j; exact (congrArg _ (eq_ix3 j)).trans (res_xa m c _ _ _)

end Cert.KernelIdeal.Hand

end
-- ==== Proof.ReferenceIdeal.Value.lean ====
/- The reference's five results over the extended reals are, index by index, the sums of `Cert.Spec`. -/
module

public import proofs.«01_k».proof.Proof.Spec
public import proofs.«01_k».proof.Proof.Gen.ReferenceIdeal.Run
public import Idealize.ShloMosaic.Lib.Pipeline.ValueKit
public import Idealize.ShloMosaic.Lib.Pointwise
public import Idealize.ShloMosaic.Lib.Claim
public import Idealize.ShloMosaic.Lib.Tactic.CleanTypes

@[expose] public section

set_option maxRecDepth 16384

noncomputable section

namespace Cert.ReferenceIdeal.Hand

open Idealize.ShloMosaic Idealize.ShloMosaic.TcCoe Idealize.ShloMosaic.Tactic Idealize.SL.Sem
open Cert.ReferenceIdeal Cert.ReferenceIdeal.Gen Cert.Spec

variable (m : (ℓ : Loc nD τ sig) → Buf (Elt Ideal) ℓ)

/-! ## The arguments -/

/-- Row `r` of `x`, the two leading axes joined. -/
def X (c : Dev nD) (r : Fin 1792) (k : Fin 3584) : EReal :=
  m ((c.tc : Thread nD τ).loc main_arg0) (ix3 ⟨r.val / 896, by omega⟩ ⟨r.val % 896, by omega⟩ k)
/-- Row `r` of `dy`. -/
def DY (c : Dev nD) (r : Fin 1792) (n : Fin 18944) : EReal :=
  m ((c.tc : Thread nD τ).loc main_arg1) (ix3 ⟨r.val / 896, by omega⟩ ⟨r.val % 896, by omega⟩ n)
/-- The packed weights. -/
def WP (c : Dev nD) (i : Fin 1792) (n : Fin 18944) : BitVec 8 := m ((c.tc : Thread nD τ).loc main_arg2) (ix2 i n)
/-- The scales. -/
def SC (c : Dev nD) (i : Fin 28) (n : Fin 18944) : EReal := m ((c.tc : Thread nD τ).loc main_arg3) (ix2 i n)
/-- `lora_a`. -/
def LA (c : Dev nD) (k : Fin 3584) (l : Fin 32) : EReal := m ((c.tc : Thread nD τ).loc main_arg4) (ix2 k l)
/-- `lora_b`. -/
def LB (c : Dev nD) (l : Fin 32) (n : Fin 18944) : EReal := m ((c.tc : Thread nD τ).loc main_arg5) (ix2 l n)

/-- Row `r` of a batch, in the joined axis. -/
abbrev row (b : Fin 2) (r : Fin 896) : Fin 1792 := ⟨b.val * 896 + r.val, by omega⟩

/-- A row of `x` in the joined axis is that row of its batch. -/
theorem X_row (c : Dev nD) (b : Fin 2) (r : Fin 896) (k : Fin 3584) : X m c (row b r) k = m ((c.tc : Thread nD τ).loc main_arg0) (ix3 b r k) :=
  congrArg₂ (fun p q => m ((c.tc : Thread nD τ).loc main_arg0) (ix3 p q k)) (Fin.ext (by change (b.val * 896 + r.val) / 896 = b.val; omega))
    (Fin.ext (by change (b.val * 896 + r.val) % 896 = r.val; omega))

/-- A row of `dy` in the joined axis is that row of its batch. -/
theorem DY_row (c : Dev nD) (b : Fin 2) (r : Fin 896) (n : Fin 18944) : DY m c (row b r) n = m ((c.tc : Thread nD τ).loc main_arg1) (ix3 b r n) :=
  congrArg₂ (fun p q => m ((c.tc : Thread nD τ).loc main_arg1) (ix3 p q n)) (Fin.ext (by change (b.val * 896 + r.val) / 896 = b.val; omega))
    (Fin.ext (by change (b.val * 896 + r.val) % 896 = r.val; omega))

/-! ## The weights -/

/-- The reference's low half of a byte, as a number. -/
theorem low_apply (v : BitVec 8) (o : ℕ) (h : o % 2 = 0) :
    (FloatOps.sitofp (F := Ideal) .bf16 (Scalar.select (IntOp.cmpi CmpIPredicate.sge (IntOp.andi (BitVec.setWidth 32 v) 15#32) 8#32)
      (IntOp.subi (IntOp.andi (BitVec.setWidth 32 v) 15#32) 16#32) (IntOp.andi (BitVec.setWidth 32 v) 15#32)) : EReal) = ((nib v o : ℝ) : EReal) := by
  rw [nib_mod, h, ← low_eq]; rfl

/-- The reference's high half of a byte, as a number. -/
theorem high_apply (v : BitVec 8) (o : ℕ) (h : o % 2 = 1) :
    (FloatOps.sitofp (F := Ideal) .bf16 (Scalar.select (IntOp.cmpi CmpIPredicate.sge (IntOp.shrsi ArithUnit.host (BitVec.setWidth 32 v) 4#32) 8#32)
      (IntOp.subi (IntOp.shrsi ArithUnit.host (BitVec.setWidth 32 v) 4#32) 16#32) (IntOp.shrsi ArithUnit.host (BitVec.setWidth 32 v) 4#32)) : EReal)
      = ((nib v o : ℝ) : EReal) := by
  rw [nib_mod, h, ← high_eq]; rfl

/-! ## The results -/

/-- The reference ends with the five results at `Cert.Spec`'s sums of its arguments, and its arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v39) = (fun j : S2x896x3584.Idx => dxS (DY m c (row (j 0) (j 1))) (WP m c) (SC m c) (LA m c) (LB m c) (j 2))
      ∧ r.2.mem ((c.tc : Thread nD τ).loc main_v42) = (fun j : S3584x32.Idx => daS (X m c) (DY m c) (LB m c) (j 0) (j 1))
      ∧ r.2.mem ((c.tc : Thread nD τ).loc main_v45) = (fun j : S32x18944.Idx => dbS (X m c) (DY m c) (LA m c) (j 0) (j 1))
      ∧ r.2.mem ((c.tc : Thread nD τ).loc main_v46) = (fun j : S2x896x32.Idx => gS (DY m c (row (j 0) (j 1))) (LB m c) (j 2))
      ∧ r.2.mem ((c.tc : Thread nD τ).loc main_v47) = (fun j : S2x896x32.Idx => xaS (X m c (row (j 0) (j 1))) (LA m c) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2⟩) (Cert.ReferenceIdeal.Value.run m ρ)
  all_goals (clear h; funext j; idx_vars j; clean_types; pointwise)
  · unfold dxS gS
    simp only [DY_row]
    refine congrArg₂ (· + ·) ?_ (congrArg₂ (· * ·) scale_eq rfl)
    split
    · next h =>
      refine Finset.sum_congr rfl fun n _ => congrArg₂ (α := EReal) (β := EReal) (γ := EReal) (· * ·) rfl ?_
      refine congrArg₂ (α := EReal) (β := EReal) (γ := EReal) (· * ·) (low_apply _ _ (by omega)) (congrArg (fun i => SC m c i n) (Fin.ext (by simp only; omega)))
    · next h =>
      refine Finset.sum_congr rfl fun n _ => congrArg₂ (α := EReal) (β := EReal) (γ := EReal) (· * ·) rfl ?_
      refine congrArg₂ (α := EReal) (β := EReal) (γ := EReal) (· * ·) (high_apply _ _ (by omega)) (congrArg (fun i => SC m c i n) (Fin.ext (by simp only; omega)))
  · exact congrArg₂ (· * ·) scale_eq rfl
  · exact congrArg₂ (· * ·) scale_eq rfl
  · unfold gS; exact Finset.sum_congr rfl fun n _ => congrArg (· * _) (DY_row m c _ _ n).symm
  · unfold xaS; exact Finset.sum_congr rfl fun n _ => congrArg (· * _) (X_row m c _ _ n).symm

end Cert.ReferenceIdeal.Hand

end
-- ==== Proof.KernelIdeal.Final.lean ====
/- Over the extended reals the kernel and the reference, started on the same arguments, end with the same five results. -/
module

public import proofs.«01_k».proof.Defs
public import proofs.«01_k».proof.Proof.KernelIdeal.Values
public import proofs.«01_k».proof.Proof.ReferenceIdeal.Value

@[expose] public section

set_option maxRecDepth 16384

noncomputable section

namespace Cert.KernelIdeal.Hand

open Idealize.ShloMosaic Idealize.SL.Sem

/-- The kernel's idealization and the reference's end with equal results, all five of them, on every input, and leave their arguments as they were. -/
theorem algebraic : @Cert.algebraic_KernelIdeal_ReferenceIdeal Cert.KernelIdeal.Gen.facts Cert.ReferenceIdeal.Gen.facts := by
  intro m g m' g' _ hagree
  refine ⟨_, _, _, _, _, run m g, (θ_run Cert.ReferenceIdeal.defs _ _).mono (fun r h c => ?_) (Cert.ReferenceIdeal.Hand.run m' g')⟩
  have hX : Cert.ReferenceIdeal.Hand.X m' c = X m c := funext fun _ => funext fun _ => congrFun (hagree c).1 _
  have hDY : Cert.ReferenceIdeal.Hand.DY m' c = DY m c := funext fun _ => funext fun _ => congrFun (hagree c).2.1 _
  have hWP : Cert.ReferenceIdeal.Hand.WP m' c = WP m c := funext fun _ => funext fun _ => congrFun (hagree c).2.2.1 _
  have hSC : Cert.ReferenceIdeal.Hand.SC m' c = SC m c := funext fun _ => funext fun _ => congrFun (hagree c).2.2.2.1 _
  have hLA : Cert.ReferenceIdeal.Hand.LA m' c = LA m c := funext fun _ => funext fun _ => congrFun (hagree c).2.2.2.2.1 _
  have hLB : Cert.ReferenceIdeal.Hand.LB m' c = LB m c := funext fun _ => funext fun _ => congrFun (hagree c).2.2.2.2.2 _
  have h := h c
  rw [hX, hDY, hWP, hSC, hLA, hLB] at h
  exact h

end Cert.KernelIdeal.Hand

end
-- ==== Proof.lean ====
module

public import proofs.«01_k».proof.Defs
public import proofs.«01_k».proof.Proof.Kernel.Frame
public import proofs.«01_k».proof.Proof.KernelIdeal.Final
public import proofs.«01_k».proof.Proof.Gen.ReferenceIdeal.Run
public import Idealize.ShloMosaic.Lib.Claim

@[expose] public section

noncomputable section

namespace Cert.Proof

open Idealize.ShloMosaic Idealize.SL.Sem

/-- The kernel terminates without a fault, leaves its arguments as they were and every semaphore counter at zero. -/
theorem kernel_frame : @Cert.quiescent_Kernel Cert.Kernel.Gen.facts := fun m g _ =>
  (θ_run _ _ _).mono (fun _ h => ⟨Cert.Kernel.Hand.frame_args m h, h.2⟩) (Cert.Kernel.Hand.run_main m g)

/-- So does its idealization. -/
theorem kernelIdeal_frame : @Cert.quiescent_KernelIdeal Cert.KernelIdeal.Gen.facts := fun m g _ =>
  (θ_run _ _ _).mono (fun _ h => ⟨Cert.KernelIdeal.Hand.frame_args m h, h.2⟩) (Cert.KernelIdeal.Hand.run_main m g)

/-- So does the reference's idealization. -/
theorem referenceIdeal_frame : @Cert.quiescent_ReferenceIdeal Cert.ReferenceIdeal.Gen.facts := fun m g _ =>
  (θ_run Cert.ReferenceIdeal.defs _ _).mono (fun r h => ⟨fun c => (h c).2.2.2.2.2, sem_eq_zero_of_no_sems (by decide) r.2⟩)
    (Cert.ReferenceIdeal.Value.run m g)

/-- The claim. -/
theorem claim : Cert.Claim :=
  ⟨Cert.Kernel.Gen.facts, Cert.KernelIdeal.Gen.facts, Cert.ReferenceIdeal.Gen.facts,
    kernel_frame, kernelIdeal_frame, referenceIdeal_frame, trivial, Cert.KernelIdeal.Hand.algebraic⟩

end Cert.Proof

end
